-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v394) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x1024x1024 : Shape := ⟨4, ![8, 1, 1024, 1024]⟩
abbrev S8x1x4 : Shape := ⟨3, ![8, 1, 4]⟩
abbrev S1x1x1024x1024 : Shape := ⟨4, ![1, 1, 1024, 1024]⟩
abbrev S1x1x4 : Shape := ⟨3, ![1, 1, 4]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S5x1024 : Shape := ⟨2, ![5, 1024]⟩
abbrev S1019x1024 : Shape := ⟨2, ![1019, 1024]⟩
abbrev S1024x1019 : Shape := ⟨2, ![1024, 1019]⟩
abbrev S1024x5 : Shape := ⟨2, ![1024, 5]⟩
abbrev S1x1024x5 : Shape := ⟨3, ![1, 1024, 5]⟩
abbrev S1x5x1024 : Shape := ⟨3, ![1, 5, 1024]⟩
abbrev S1019x5 : Shape := ⟨2, ![1019, 5]⟩
abbrev S1x1019x5 : Shape := ⟨3, ![1, 1019, 5]⟩
abbrev S4 : Shape := ⟨1, ![4]⟩
abbrev S8x1x1x4 : Shape := ⟨4, ![8, 1, 1, 4]⟩

abbrev nBuf : Space → Nat
  | .hbm => 3
  | .vmem => 4
  | .smem => 0
  | _ => 0

abbrev bufTy : (tb : Table) → Fin (tcTables nBuf tb) → BufTy
  | .hbm, ⟨0, _⟩ => ⟨S8x1x1024x1024, .f32⟩
  | .hbm, ⟨1, _⟩ => ⟨S8x1x4, .f32⟩
  | .hbm, ⟨2, _⟩ => ⟨S8x1x1x4, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x4, .f32⟩
  | .local _ .vmem, ⟨3, _⟩ => ⟨S1x1x4, .f32⟩
  | _, _ => ⟨S8x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x1x1024x1024 : Shape := ⟨4, ![8, 1, 1024, 1024]⟩
abbrev S8x1024x1024 : Shape := ⟨3, ![8, 1024, 1024]⟩
abbrev S_ : Shape := ⟨0, ![]⟩
abbrev S8 : Shape := ⟨1, ![8]⟩
abbrev S8x1x1 : Shape := ⟨3, ![8, 1, 1]⟩
abbrev S16 : Shape := ⟨1, ![16]⟩
abbrev S8x1024x1024x1 : Shape := ⟨4, ![8, 1024, 1024, 1]⟩
abbrev S1x1x16 : Shape := ⟨3, ![1, 1, 16]⟩
abbrev S1x1x1x16 : Shape := ⟨4, ![1, 1, 1, 16]⟩
abbrev S8x1024x1024x16 : Shape := ⟨4, ![8, 1024, 1024, 16]⟩
abbrev S8x1024x1019x16 : Shape := ⟨4, ![8, 1024, 1019, 16]⟩
abbrev S8x1024x5x16 : Shape := ⟨4, ![8, 1024, 5, 16]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1024x1024x1 : Shape := ⟨3, ![1024, 1024, 1]⟩
abbrev S1x1024x1024x1 : Shape := ⟨4, ![1, 1024, 1024, 1]⟩
abbrev S8x16x16 : Shape := ⟨3, ![8, 16, 16]⟩
abbrev S8x16 : Shape := ⟨2, ![8, 16]⟩
abbrev S16x1 : Shape := ⟨2, ![16, 1]⟩
abbrev S1x16 : Shape := ⟨2, ![1, 16]⟩
abbrev S16x16 : Shape := ⟨2, ![16, 16]⟩
abbrev S8x16x1 : Shape := ⟨3, ![8, 16, 1]⟩
abbrev S8x1x16 : Shape := ⟨3, ![8, 1, 16]⟩
abbrev S1x16x16 : Shape := ⟨3, ![1, 16, 16]⟩
abbrev S8x5x1024x16 : Shape := ⟨4, ![8, 5, 1024, 16]⟩
abbrev S8x1019x1024x16 : Shape := ⟨4, ![8, 1019, 1024, 16]⟩
abbrev S1x8 : Shape := ⟨2, ![1, 8]⟩
abbrev S4x8 : Shape := ⟨2, ![4, 8]⟩
abbrev S8x4 : Shape := ⟨2, ![8, 4]⟩
abbrev S8x1x1x4 : Shape := ⟨4, ![8, 1, 1, 4]⟩

abbrev nBuf : Space → Nat
  | .hbm => 452
  | .vmem => 0
  | .smem => 0
  | _ => 0

abbrev hbmTy0_0 (i : Nat) : BufTy := match i % 128 with
  | 0 => ⟨S8x1x1024x1024, .f32⟩
  | 1 => ⟨S8x1024x1024, .f32⟩
  | 2 => ⟨S_, .f32⟩
  | 3 => ⟨S8, .f32⟩
  | 4 => ⟨S_, .f32⟩
  | 5 => ⟨S8, .f32⟩
  | 6 => ⟨S8x1x1, .f32⟩
  | 7 => ⟨S8x1024x1024, .f32⟩
  | 8 => ⟨S8x1024x1024, .f32⟩
  | 9 => ⟨S_, .f32⟩
  | 10 => ⟨S8x1024x1024, .f32⟩
  | 11 => ⟨S8x1024x1024, .f32⟩
  | 12 => ⟨S8, .f32⟩
  | 13 => ⟨S8x1x1, .f32⟩
  | 14 => ⟨S8x1024x1024, .f32⟩
  | 15 => ⟨S8x1024x1024, .f32⟩
  | 16 => ⟨S_, .f32⟩
  | 17 => ⟨S8x1024x1024, .f32⟩
  | 18 => ⟨S8x1024x1024, .f32⟩
  | 19 => ⟨S16, .f32⟩
  | 20 => ⟨S_, .f32⟩
  | 21 => ⟨S16, .f32⟩
  | 22 => ⟨S16, .f32⟩
  | 23 => ⟨S8x1024x1024x1, .f32⟩
  | 24 => ⟨S1x1x16, .f32⟩
  | 25 => ⟨S1x1x1x16, .f32⟩
  | 26 => ⟨S8x1024x1024x16, .f32⟩
  | 27 => ⟨S8x1024x1024x16, .f32⟩
  | 28 => ⟨S8x1024x1024x16, .i1⟩
  | 29 => ⟨S8x1024x1024x16, .f32⟩
  | 30 => ⟨S8x1024x1019x16, .f32⟩
  | 31 => ⟨S8x1024x5x16, .f32⟩
  | 32 => ⟨S8x1024x1024x16, .f32⟩
  | 33 => ⟨S1024, .i32⟩
  | 34 => ⟨S_, .i32⟩
  | 35 => ⟨S1024, .i32⟩
  | 36 => ⟨S1024, .i32⟩
  | 37 => ⟨S1024, .i32⟩
  | 38 => ⟨S_, .i32⟩
  | 39 => ⟨S1024, .i32⟩
  | 40 => ⟨S1024, .i32⟩
  | 41 => ⟨S_, .i32⟩
  | 42 => ⟨S1024, .i32⟩
  | 43 => ⟨S1024, .i1⟩
  | 44 => ⟨S_, .i32⟩
  | 45 => ⟨S1024, .i32⟩
  | 46 => ⟨S1024, .i1⟩
  | 47 => ⟨S1024, .i1⟩
  | 48 => ⟨S1024x1, .i1⟩
  | 49 => ⟨S_, .i32⟩
  | 50 => ⟨S1024, .i32⟩
  | 51 => ⟨S1024, .i1⟩
  | 52 => ⟨S_, .i32⟩
  | 53 => ⟨S1024, .i32⟩
  | 54 => ⟨S1024, .i1⟩
  | 55 => ⟨S1024, .i1⟩
  | 56 => ⟨S1x1024, .i1⟩
  | 57 => ⟨S1024x1024, .i1⟩
  | 58 => ⟨S1024x1024, .i1⟩
  | 59 => ⟨S1024x1024, .i1⟩
  | 60 => ⟨S1024x1024, .f32⟩
  | 61 => ⟨S1024x1024x1, .f32⟩
  | 62 => ⟨S1x1024x1024x1, .f32⟩
  | 63 => ⟨S8x1024x1024x16, .f32⟩
  | 64 => ⟨S8x1024x1024x16, .f32⟩
  | 65 => ⟨S8x16x16, .f32⟩
  | 66 => ⟨S_, .f32⟩
  | 67 => ⟨S1024x1024, .f32⟩
  | 68 => ⟨S1024x1024, .f32⟩
  | 69 => ⟨S8x16, .f32⟩
  | 70 => ⟨S_, .f32⟩
  | 71 => ⟨S_, .f32⟩
  | 72 => ⟨S8x16x16, .f32⟩
  | 73 => ⟨S8x16x16, .f32⟩
  | 74 => ⟨S16, .i32⟩
  | 75 => ⟨S16x1, .i32⟩
  | 76 => ⟨S1x16, .i32⟩
  | 77 => ⟨S16x16, .i32⟩
  | 78 => ⟨S16x16, .i32⟩
  | 79 => ⟨S16x16, .i32⟩
  | 80 => ⟨S_, .i32⟩
  | 81 => ⟨S16x16, .i32⟩
  | 82 => ⟨S16x16, .i1⟩
  | 83 => ⟨S16x16, .f32⟩
  | 84 => ⟨S8x16x1, .f32⟩
  | 85 => ⟨S8x16x1, .f32⟩
  | 86 => ⟨S8x16x1, .f32⟩
  | 87 => ⟨S8x1x16, .f32⟩
  | 88 => ⟨S8x16x16, .f32⟩
  | 89 => ⟨S8x16x16, .f32⟩
  | 90 => ⟨S8x16x16, .f32⟩
  | 91 => ⟨S16x16, .i32⟩
  | 92 => ⟨S16x16, .i32⟩
  | 93 => ⟨S_, .i32⟩
  | 94 => ⟨S16x16, .i32⟩
  | 95 => ⟨S16x16, .i32⟩
  | 96 => ⟨S16x16, .i1⟩
  | 97 => ⟨S16x16, .f32⟩
  | 98 => ⟨S16x16, .f32⟩
  | 99 => ⟨S16x16, .f32⟩
  | 100 => ⟨S1x16x16, .f32⟩
  | 101 => ⟨S8x16x16, .f32⟩
  | 102 => ⟨S8x16x16, .f32⟩
  | 103 => ⟨S1x16x16, .f32⟩
  | 104 => ⟨S8x16x16, .f32⟩
  | 105 => ⟨S8x16x16, .f32⟩
  | 106 => ⟨S8x16x16, .f32⟩
  | 107 => ⟨S_, .f32⟩
  | 108 => ⟨S8, .f32⟩
  | 109 => ⟨S8x1x1, .f32⟩
  | 110 => ⟨S8x16x16, .f32⟩
  | 111 => ⟨S8x16x16, .f32⟩
  | 112 => ⟨S16x1, .i32⟩
  | 113 => ⟨S1x16, .i32⟩
  | 114 => ⟨S16x16, .i32⟩
  | 115 => ⟨S16x16, .i32⟩
  | 116 => ⟨S16x16, .i32⟩
  | 117 => ⟨S16x16, .f32⟩
  | 118 => ⟨S16x16, .f32⟩
  | 119 => ⟨S1x16x16, .f32⟩
  | 120 => ⟨S8x16x16, .f32⟩
  | 121 => ⟨S8x16x16, .f32⟩
  | 122 => ⟨S_, .f32⟩
  | 123 => ⟨S8, .f32⟩
  | 124 => ⟨S16, .f32⟩
  | 125 => ⟨S_, .f32⟩
  | 126 => ⟨S16, .f32⟩
  | 127 => ⟨S16, .f32⟩
  | _ => ⟨S8x1x1024x1024, .f32⟩

abbrev hbmTy0_1 (i : Nat) : BufTy := match i % 128 with
  | 0 => ⟨S8x1024x1024x1, .f32⟩
  | 1 => ⟨S1x1x16, .f32⟩
  | 2 => ⟨S1x1x1x16, .f32⟩
  | 3 => ⟨S8x1024x1024x16, .f32⟩
  | 4 => ⟨S8x1024x1024x16, .f32⟩
  | 5 => ⟨S8x1024x1024x16, .i1⟩
  | 6 => ⟨S8x1024x1024x16, .f32⟩
  | 7 => ⟨S8x5x1024x16, .f32⟩
  | 8 => ⟨S8x1019x1024x16, .f32⟩
  | 9 => ⟨S8x1024x1024x16, .f32⟩
  | 10 => ⟨S8x1024x1019x16, .f32⟩
  | 11 => ⟨S8x1024x5x16, .f32⟩
  | 12 => ⟨S8x1024x1024x16, .f32⟩
  | 13 => ⟨S1024, .i32⟩
  | 14 => ⟨S_, .i32⟩
  | 15 => ⟨S1024, .i32⟩
  | 16 => ⟨S1024, .i32⟩
  | 17 => ⟨S1024, .i32⟩
  | 18 => ⟨S_, .i32⟩
  | 19 => ⟨S1024, .i32⟩
  | 20 => ⟨S1024, .i32⟩
  | 21 => ⟨S_, .i32⟩
  | 22 => ⟨S1024, .i32⟩
  | 23 => ⟨S1024, .i1⟩
  | 24 => ⟨S_, .i32⟩
  | 25 => ⟨S1024, .i32⟩
  | 26 => ⟨S1024, .i1⟩
  | 27 => ⟨S1024, .i1⟩
  | 28 => ⟨S1024x1, .i1⟩
  | 29 => ⟨S_, .i32⟩
  | 30 => ⟨S1024, .i32⟩
  | 31 => ⟨S1024, .i1⟩
  | 32 => ⟨S_, .i32⟩
  | 33 => ⟨S1024, .i32⟩
  | 34 => ⟨S1024, .i1⟩
  | 35 => ⟨S1024, .i1⟩
  | 36 => ⟨S1x1024, .i1⟩
  | 37 => ⟨S1024x1024, .i1⟩
  | 38 => ⟨S1024x1024, .i1⟩
  | 39 => ⟨S1024x1024, .i1⟩
  | 40 => ⟨S1024x1024, .f32⟩
  | 41 => ⟨S1024x1024x1, .f32⟩
  | 42 => ⟨S1x1024x1024x1, .f32⟩
  | 43 => ⟨S8x1024x1024x16, .f32⟩
  | 44 => ⟨S8x1024x1024x16, .f32⟩
  | 45 => ⟨S8x16x16, .f32⟩
  | 46 => ⟨S_, .f32⟩
  | 47 => ⟨S1024x1024, .f32⟩
  | 48 => ⟨S1024x1024, .f32⟩
  | 49 => ⟨S8x16, .f32⟩
  | 50 => ⟨S_, .f32⟩
  | 51 => ⟨S_, .f32⟩
  | 52 => ⟨S8x16x16, .f32⟩
  | 53 => ⟨S8x16x16, .f32⟩
  | 54 => ⟨S16, .i32⟩
  | 55 => ⟨S16x1, .i32⟩
  | 56 => ⟨S1x16, .i32⟩
  | 57 => ⟨S16x16, .i32⟩
  | 58 => ⟨S16x16, .i32⟩
  | 59 => ⟨S16x16, .i32⟩
  | 60 => ⟨S_, .i32⟩
  | 61 => ⟨S16x16, .i32⟩
  | 62 => ⟨S16x16, .i1⟩
  | 63 => ⟨S16x16, .f32⟩
  | 64 => ⟨S8x16x1, .f32⟩
  | 65 => ⟨S8x16x1, .f32⟩
  | 66 => ⟨S8x16x1, .f32⟩
  | 67 => ⟨S8x1x16, .f32⟩
  | 68 => ⟨S8x16x16, .f32⟩
  | 69 => ⟨S8x16x16, .f32⟩
  | 70 => ⟨S8x16x16, .f32⟩
  | 71 => ⟨S16x16, .i32⟩
  | 72 => ⟨S16x16, .i32⟩
  | 73 => ⟨S_, .i32⟩
  | 74 => ⟨S16x16, .i32⟩
  | 75 => ⟨S16x16, .i32⟩
  | 76 => ⟨S16x16, .i1⟩
  | 77 => ⟨S16x16, .f32⟩
  | 78 => ⟨S16x16, .f32⟩
  | 79 => ⟨S16x16, .f32⟩
  | 80 => ⟨S1x16x16, .f32⟩
  | 81 => ⟨S8x16x16, .f32⟩
  | 82 => ⟨S8x16x16, .f32⟩
  | 83 => ⟨S1x16x16, .f32⟩
  | 84 => ⟨S8x16x16, .f32⟩
  | 85 => ⟨S8x16x16, .f32⟩
  | 86 => ⟨S8x16x16, .f32⟩
  | 87 => ⟨S_, .f32⟩
  | 88 => ⟨S8, .f32⟩
  | 89 => ⟨S8x1x1, .f32⟩
  | 90 => ⟨S8x16x16, .f32⟩
  | 91 => ⟨S8x16x16, .f32⟩
  | 92 => ⟨S16x1, .i32⟩
  | 93 => ⟨S1x16, .i32⟩
  | 94 => ⟨S16x16, .i32⟩
  | 95 => ⟨S16x16, .i32⟩
  | 96 => ⟨S16x16, .i32⟩
  | 97 => ⟨S16x16, .f32⟩
  | 98 => ⟨S16x16, .f32⟩
  | 99 => ⟨S1x16x16, .f32⟩
  | 100 => ⟨S8x16x16, .f32⟩
  | 101 => ⟨S8x16x16, .f32⟩
  | 102 => ⟨S_, .f32⟩
  | 103 => ⟨S8, .f32⟩
  | 104 => ⟨S16, .f32⟩
  | 105 => ⟨S_, .f32⟩
  | 106 => ⟨S16, .f32⟩
  | 107 => ⟨S16, .f32⟩
  | 108 => ⟨S8x1024x1024x1, .f32⟩
  | 109 => ⟨S1x1x16, .f32⟩
  | 110 => ⟨S1x1x1x16, .f32⟩
  | 111 => ⟨S8x1024x1024x16, .f32⟩
  | 112 => ⟨S8x1024x1024x16, .f32⟩
  | 113 => ⟨S8x1024x1024x16, .i1⟩
  | 114 => ⟨S8x1024x1024x16, .f32⟩
  | 115 => ⟨S8x5x1024x16, .f32⟩
  | 116 => ⟨S8x1019x1024x16, .f32⟩
  | 117 => ⟨S8x1024x1024x16, .f32⟩
  | 118 => ⟨S1024, .i32⟩
  | 119 => ⟨S_, .i32⟩
  | 120 => ⟨S1024, .i32⟩
  | 121 => ⟨S1024, .i32⟩
  | 122 => ⟨S1024, .i32⟩
  | 123 => ⟨S_, .i32⟩
  | 124 => ⟨S1024, .i32⟩
  | 125 => ⟨S1024, .i32⟩
  | 126 => ⟨S_, .i32⟩
  | 127 => ⟨S1024, .i32⟩
  | _ => ⟨S8x1x1024x1024, .f32⟩

abbrev hbmTy0_2 (i : Nat) : BufTy := match i % 128 with
  | 0 => ⟨S1024, .i1⟩
  | 1 => ⟨S_, .i32⟩
  | 2 => ⟨S1024, .i32⟩
  | 3 => ⟨S1024, .i1⟩
  | 4 => ⟨S1024, .i1⟩
  | 5 => ⟨S1024x1, .i1⟩
  | 6 => ⟨S_, .i32⟩
  | 7 => ⟨S1024, .i32⟩
  | 8 => ⟨S1024, .i1⟩
  | 9 => ⟨S_, .i32⟩
  | 10 => ⟨S1024, .i32⟩
  | 11 => ⟨S1024, .i1⟩
  | 12 => ⟨S1024, .i1⟩
  | 13 => ⟨S1x1024, .i1⟩
  | 14 => ⟨S1024x1024, .i1⟩
  | 15 => ⟨S1024x1024, .i1⟩
  | 16 => ⟨S1024x1024, .i1⟩
  | 17 => ⟨S1024x1024, .f32⟩
  | 18 => ⟨S1024x1024x1, .f32⟩
  | 19 => ⟨S1x1024x1024x1, .f32⟩
  | 20 => ⟨S8x1024x1024x16, .f32⟩
  | 21 => ⟨S8x1024x1024x16, .f32⟩
  | 22 => ⟨S8x16x16, .f32⟩
  | 23 => ⟨S_, .f32⟩
  | 24 => ⟨S1024x1024, .f32⟩
  | 25 => ⟨S1024x1024, .f32⟩
  | 26 => ⟨S8x16, .f32⟩
  | 27 => ⟨S_, .f32⟩
  | 28 => ⟨S_, .f32⟩
  | 29 => ⟨S8x16x16, .f32⟩
  | 30 => ⟨S8x16x16, .f32⟩
  | 31 => ⟨S16, .i32⟩
  | 32 => ⟨S16x1, .i32⟩
  | 33 => ⟨S1x16, .i32⟩
  | 34 => ⟨S16x16, .i32⟩
  | 35 => ⟨S16x16, .i32⟩
  | 36 => ⟨S16x16, .i32⟩
  | 37 => ⟨S_, .i32⟩
  | 38 => ⟨S16x16, .i32⟩
  | 39 => ⟨S16x16, .i1⟩
  | 40 => ⟨S16x16, .f32⟩
  | 41 => ⟨S8x16x1, .f32⟩
  | 42 => ⟨S8x16x1, .f32⟩
  | 43 => ⟨S8x16x1, .f32⟩
  | 44 => ⟨S8x1x16, .f32⟩
  | 45 => ⟨S8x16x16, .f32⟩
  | 46 => ⟨S8x16x16, .f32⟩
  | 47 => ⟨S8x16x16, .f32⟩
  | 48 => ⟨S16x16, .i32⟩
  | 49 => ⟨S16x16, .i32⟩
  | 50 => ⟨S_, .i32⟩
  | 51 => ⟨S16x16, .i32⟩
  | 52 => ⟨S16x16, .i32⟩
  | 53 => ⟨S16x16, .i1⟩
  | 54 => ⟨S16x16, .f32⟩
  | 55 => ⟨S16x16, .f32⟩
  | 56 => ⟨S16x16, .f32⟩
  | 57 => ⟨S1x16x16, .f32⟩
  | 58 => ⟨S8x16x16, .f32⟩
  | 59 => ⟨S8x16x16, .f32⟩
  | 60 => ⟨S1x16x16, .f32⟩
  | 61 => ⟨S8x16x16, .f32⟩
  | 62 => ⟨S8x16x16, .f32⟩
  | 63 => ⟨S8x16x16, .f32⟩
  | 64 => ⟨S_, .f32⟩
  | 65 => ⟨S8, .f32⟩
  | 66 => ⟨S8x1x1, .f32⟩
  | 67 => ⟨S8x16x16, .f32⟩
  | 68 => ⟨S8x16x16, .f32⟩
  | 69 => ⟨S16x1, .i32⟩
  | 70 => ⟨S1x16, .i32⟩
  | 71 => ⟨S16x16, .i32⟩
  | 72 => ⟨S16x16, .i32⟩
  | 73 => ⟨S16x16, .i32⟩
  | 74 => ⟨S16x16, .f32⟩
  | 75 => ⟨S16x16, .f32⟩
  | 76 => ⟨S1x16x16, .f32⟩
  | 77 => ⟨S8x16x16, .f32⟩
  | 78 => ⟨S8x16x16, .f32⟩
  | 79 => ⟨S_, .f32⟩
  | 80 => ⟨S8, .f32⟩
  | 81 => ⟨S16, .f32⟩
  | 82 => ⟨S_, .f32⟩
  | 83 => ⟨S16, .f32⟩
  | 84 => ⟨S16, .f32⟩
  | 85 => ⟨S8x1024x1024x1, .f32⟩
  | 86 => ⟨S1x1x16, .f32⟩
  | 87 => ⟨S1x1x1x16, .f32⟩
  | 88 => ⟨S8x1024x1024x16, .f32⟩
  | 89 => ⟨S8x1024x1024x16, .f32⟩
  | 90 => ⟨S8x1024x1024x16, .i1⟩
  | 91 => ⟨S8x1024x1024x16, .f32⟩
  | 92 => ⟨S8x5x1024x16, .f32⟩
  | 93 => ⟨S8x1019x1024x16, .f32⟩
  | 94 => ⟨S8x1024x1024x16, .f32⟩
  | 95 => ⟨S8x1024x5x16, .f32⟩
  | 96 => ⟨S8x1024x1019x16, .f32⟩
  | 97 => ⟨S8x1024x1024x16, .f32⟩
  | 98 => ⟨S1024, .i32⟩
  | 99 => ⟨S_, .i32⟩
  | 100 => ⟨S1024, .i32⟩
  | 101 => ⟨S1024, .i32⟩
  | 102 => ⟨S1024, .i32⟩
  | 103 => ⟨S_, .i32⟩
  | 104 => ⟨S1024, .i32⟩
  | 105 => ⟨S1024, .i32⟩
  | 106 => ⟨S_, .i32⟩
  | 107 => ⟨S1024, .i32⟩
  | 108 => ⟨S1024, .i1⟩
  | 109 => ⟨S_, .i32⟩
  | 110 => ⟨S1024, .i32⟩
  | 111 => ⟨S1024, .i1⟩
  | 112 => ⟨S1024, .i1⟩
  | 113 => ⟨S1024x1, .i1⟩
  | 114 => ⟨S_, .i32⟩
  | 115 => ⟨S1024, .i32⟩
  | 116 => ⟨S1024, .i1⟩
  | 117 => ⟨S_, .i32⟩
  | 118 => ⟨S1024, .i32⟩
  | 119 => ⟨S1024, .i1⟩
  | 120 => ⟨S1024, .i1⟩
  | 121 => ⟨S1x1024, .i1⟩
  | 122 => ⟨S1024x1024, .i1⟩
  | 123 => ⟨S1024x1024, .i1⟩
  | 124 => ⟨S1024x1024, .i1⟩
  | 125 => ⟨S1024x1024, .f32⟩
  | 126 => ⟨S1024x1024x1, .f32⟩
  | 127 => ⟨S1x1024x1024x1, .f32⟩
  | _ => ⟨S8x1x1024x1024, .f32⟩

abbrev hbmTy0_3 (i : Nat) : BufTy := match i % 128 with
  | 0 => ⟨S8x1024x1024x16, .f32⟩
  | 1 => ⟨S8x1024x1024x16, .f32⟩
  | 2 => ⟨S8x16x16, .f32⟩
  | 3 => ⟨S_, .f32⟩
  | 4 => ⟨S1024x1024, .f32⟩
  | 5 => ⟨S1024x1024, .f32⟩
  | 6 => ⟨S8x16, .f32⟩
  | 7 => ⟨S_, .f32⟩
  | 8 => ⟨S_, .f32⟩
  | 9 => ⟨S8x16x16, .f32⟩
  | 10 => ⟨S8x16x16, .f32⟩
  | 11 => ⟨S16, .i32⟩
  | 12 => ⟨S16x1, .i32⟩
  | 13 => ⟨S1x16, .i32⟩
  | 14 => ⟨S16x16, .i32⟩
  | 15 => ⟨S16x16, .i32⟩
  | 16 => ⟨S16x16, .i32⟩
  | 17 => ⟨S_, .i32⟩
  | 18 => ⟨S16x16, .i32⟩
  | 19 => ⟨S16x16, .i1⟩
  | 20 => ⟨S16x16, .f32⟩
  | 21 => ⟨S8x16x1, .f32⟩
  | 22 => ⟨S8x16x1, .f32⟩
  | 23 => ⟨S8x16x1, .f32⟩
  | 24 => ⟨S8x1x16, .f32⟩
  | 25 => ⟨S8x16x16, .f32⟩
  | 26 => ⟨S8x16x16, .f32⟩
  | 27 => ⟨S8x16x16, .f32⟩
  | 28 => ⟨S16x16, .i32⟩
  | 29 => ⟨S16x16, .i32⟩
  | 30 => ⟨S_, .i32⟩
  | 31 => ⟨S16x16, .i32⟩
  | 32 => ⟨S16x16, .i32⟩
  | 33 => ⟨S16x16, .i1⟩
  | 34 => ⟨S16x16, .f32⟩
  | 35 => ⟨S16x16, .f32⟩
  | 36 => ⟨S16x16, .f32⟩
  | 37 => ⟨S1x16x16, .f32⟩
  | 38 => ⟨S8x16x16, .f32⟩
  | 39 => ⟨S8x16x16, .f32⟩
  | 40 => ⟨S1x16x16, .f32⟩
  | 41 => ⟨S8x16x16, .f32⟩
  | 42 => ⟨S8x16x16, .f32⟩
  | 43 => ⟨S8x16x16, .f32⟩
  | 44 => ⟨S_, .f32⟩
  | 45 => ⟨S8, .f32⟩
  | 46 => ⟨S8x1x1, .f32⟩
  | 47 => ⟨S8x16x16, .f32⟩
  | 48 => ⟨S8x16x16, .f32⟩
  | 49 => ⟨S16x1, .i32⟩
  | 50 => ⟨S1x16, .i32⟩
  | 51 => ⟨S16x16, .i32⟩
  | 52 => ⟨S16x16, .i32⟩
  | 53 => ⟨S16x16, .i32⟩
  | 54 => ⟨S16x16, .f32⟩
  | 55 => ⟨S16x16, .f32⟩
  | 56 => ⟨S1x16x16, .f32⟩
  | 57 => ⟨S8x16x16, .f32⟩
  | 58 => ⟨S8x16x16, .f32⟩
  | 59 => ⟨S_, .f32⟩
  | 60 => ⟨S8, .f32⟩
  | 61 => ⟨S1x8, .f32⟩
  | 62 => ⟨S1x8, .f32⟩
  | 63 => ⟨S1x8, .f32⟩
  | 64 => ⟨S1x8, .f32⟩
  | 65 => ⟨S4x8, .f32⟩
  | 66 => ⟨S8x4, .f32⟩
  | 67 => ⟨S8x1x1x4, .f32⟩
  | _ => ⟨S8x1x1024x1024, .f32⟩

abbrev hbmTy (i : Nat) : BufTy := match i / 128 with
  | 0 => hbmTy0_0 i
  | 1 => hbmTy0_1 i
  | 2 => hbmTy0_2 i
  | 3 => hbmTy0_3 i
  | _ => ⟨S8x1x1024x1024, .f32⟩

abbrev bufTy : (tb : Table) → Fin (tcTables nBuf tb) → BufTy
  | .hbm, ⟨i, _⟩ => hbmTy i
  | _, _ => ⟨S8x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_v32 : Ref sig .tc := ⟨.hbm, 40, rfl⟩
abbrev main_c_5 : Ref sig .tc := ⟨.hbm, 41, rfl⟩
abbrev main_v33 : Ref sig .tc := ⟨.hbm, 42, rfl⟩
abbrev main_v34 : Ref sig .tc := ⟨.hbm, 43, rfl⟩
abbrev main_c_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_7 : Ref sig .tc := ⟨.hbm, 49, rfl⟩
abbrev main_v39 : Ref sig .tc := ⟨.hbm, 50, rfl⟩
abbrev main_v40 : Ref sig .tc := ⟨.hbm, 51, rfl⟩
abbrev main_c_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_9 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_10 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_c_11 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_c_12 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_13 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_cst_14 : Ref sig .tc := ⟨.hbm, 122, rfl⟩
abbrev main_v105 : Ref sig .tc := ⟨.hbm, 123, rfl⟩
abbrev main_v106 : Ref sig .tc := ⟨.hbm, 124, rfl⟩
abbrev main_cst_15 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_c_16 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_c_17 : Ref sig .tc := ⟨.hbm, 146, rfl⟩
abbrev main_v126 : Ref sig .tc := ⟨.hbm, 147, rfl⟩
abbrev main_v127 : Ref sig .tc := ⟨.hbm, 148, rfl⟩
abbrev main_c_18 : Ref sig .tc := ⟨.hbm, 149, rfl⟩
abbrev main_v128 : Ref sig .tc := ⟨.hbm, 150, rfl⟩
abbrev main_v129 : Ref sig .tc := ⟨.hbm, 151, rfl⟩
abbrev main_c_19 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_c_20 : Ref sig .tc := ⟨.hbm, 157, rfl⟩
abbrev main_v134 : Ref sig .tc := ⟨.hbm, 158, rfl⟩
abbrev main_v135 : Ref sig .tc := ⟨.hbm, 159, rfl⟩
abbrev main_c_21 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_cst_22 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_cst_23 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_c_24 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_c_25 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_cst_26 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_cst_27 : Ref sig .tc := ⟨.hbm, 230, rfl⟩
abbrev main_v200 : Ref sig .tc := ⟨.hbm, 231, rfl⟩
abbrev main_v201 : Ref sig .tc := ⟨.hbm, 232, rfl⟩
abbrev main_cst_28 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_c_29 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_c_30 : Ref sig .tc := ⟨.hbm, 251, rfl⟩
abbrev main_v218 : Ref sig .tc := ⟨.hbm, 252, rfl⟩
abbrev main_v219 : Ref sig .tc := ⟨.hbm, 253, rfl⟩
abbrev main_c_31 : Ref sig .tc := ⟨.hbm, 254, rfl⟩
abbrev main_v220 : Ref sig .tc := ⟨.hbm, 255, rfl⟩
abbrev main_v221 : Ref sig .tc := ⟨.hbm, 256, rfl⟩
abbrev main_c_32 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_c_33 : Ref sig .tc := ⟨.hbm, 262, rfl⟩
abbrev main_v226 : Ref sig .tc := ⟨.hbm, 263, rfl⟩
abbrev main_v227 : Ref sig .tc := ⟨.hbm, 264, rfl⟩
abbrev main_c_34 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_cst_35 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_cst_36 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_c_37 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_c_38 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_cst_39 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_cst_40 : Ref sig .tc := ⟨.hbm, 335, rfl⟩
abbrev main_v292 : Ref sig .tc := ⟨.hbm, 336, rfl⟩
abbrev main_v293 : Ref sig .tc := ⟨.hbm, 337, rfl⟩
abbrev main_cst_41 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_c_42 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_c_43 : Ref sig .tc := ⟨.hbm, 359, rfl⟩
abbrev main_v313 : Ref sig .tc := ⟨.hbm, 360, rfl⟩
abbrev main_v314 : Ref sig .tc := ⟨.hbm, 361, rfl⟩
abbrev main_c_44 : Ref sig .tc := ⟨.hbm, 362, rfl⟩
abbrev main_v315 : Ref sig .tc := ⟨.hbm, 363, rfl⟩
abbrev main_v316 : Ref sig .tc := ⟨.hbm, 364, rfl⟩
abbrev main_c_45 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_c_46 : Ref sig .tc := ⟨.hbm, 370, rfl⟩
abbrev main_v321 : Ref sig .tc := ⟨.hbm, 371, rfl⟩
abbrev main_v322 : Ref sig .tc := ⟨.hbm, 372, rfl⟩
abbrev main_c_47 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_cst_48 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_cst_49 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_c_50 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_c_51 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_v363 : Ref sig .tc := ⟨.hbm, 418, rfl⟩
abbrev main_v364 : Ref sig .tc := ⟨.hbm, 419, rfl⟩
abbrev main_v365 : Ref sig .tc := ⟨.hbm, 420, rfl⟩
abbrev main_v366 : Ref sig .tc := ⟨.hbm, 421, rfl⟩
abbrev main_v367 : Ref sig .tc := ⟨.hbm, 422, rfl⟩
abbrev main_v368 : Ref sig .tc := ⟨.hbm, 423, rfl⟩
abbrev main_v369 : Ref sig .tc := ⟨.hbm, 424, rfl⟩
abbrev main_v370 : Ref sig .tc := ⟨.hbm, 425, rfl⟩
abbrev main_v371 : Ref sig .tc := ⟨.hbm, 426, rfl⟩
abbrev main_v372 : Ref sig .tc := ⟨.hbm, 427, rfl⟩
abbrev main_cst_52 : Ref sig .tc := ⟨.hbm, 428, rfl⟩
abbrev main_v373 : Ref sig .tc := ⟨.hbm, 429, rfl⟩
abbrev main_v374 : Ref sig .tc := ⟨.hbm, 430, rfl⟩
abbrev main_v375 : Ref sig .tc := ⟨.hbm, 431, rfl⟩
abbrev main_v376 : Ref sig .tc := ⟨.hbm, 432, rfl⟩
abbrev main_v377 : Ref sig .tc := ⟨.hbm, 433, rfl⟩
abbrev main_v378 : Ref sig .tc := ⟨.hbm, 434, rfl⟩
abbrev main_v379 : Ref sig .tc := ⟨.hbm, 435, rfl⟩
abbrev main_v380 : Ref sig .tc := ⟨.hbm, 436, rfl⟩
abbrev main_v381 : Ref sig .tc := ⟨.hbm, 437, rfl⟩
abbrev main_v382 : Ref sig .tc := ⟨.hbm, 438, rfl⟩
abbrev main_v383 : Ref sig .tc := ⟨.hbm, 439, rfl⟩
abbrev main_v384 : Ref sig .tc := ⟨.hbm, 440, rfl⟩
abbrev main_v385 : Ref sig .tc := ⟨.hbm, 441, rfl⟩
abbrev main_v386 : Ref sig .tc := ⟨.hbm, 442, rfl⟩
abbrev main_cst_53 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_v390 : Ref sig .tc := ⟨.hbm, 447, rfl⟩
abbrev main_v391 : Ref sig .tc := ⟨.hbm, 448, rfl⟩
abbrev main_v392 : Ref sig .tc := ⟨.hbm, 449, rfl⟩
abbrev main_v393 : Ref sig .tc := ⟨.hbm, 450, rfl⟩
abbrev main_v394 : Ref sig .tc := ⟨.hbm, 451, rfl⟩

abbrev nD : Nat := 1
abbrev τ : Topo := Topo.v7x

variable {F : FTy → Type} [FloatOps F]
-- ==== Proof.Glcm.Counts.lean ====
/-
  The co-occurrence table of one neighbour offset, over the reals, and the two sums of it the contrast is made of.

  A pixel `p` carries its one-hot level `C l p` (`1` at its own level, `0` elsewhere) and its neighbour's `D l p`;
  `v p` is `1` where the neighbour lies inside the image and `0` where it is padding. The table counts each ordered pair
  twice over (once each way) and adds the padding's contribution on the anti-diagonal `a + b = 18`. Nothing here is about
  a program: the pixels are any finite type.
-/
module

public import Idealize.ShloMosaic.Lib.Pointwise

@[expose] public section

noncomputable section

namespace Cert.Glcm

variable {ι : Type*} [Fintype ι]

/-- The squared distance of two levels. -/
def sqDist (a b : Fin 16) : ℝ := ((a : ℝ) - (b : ℝ)) * ((a : ℝ) - (b : ℝ))

/-- `1` on the anti-diagonal the padding value counts toward, `0` off it. -/
def antiDiag (a b : Fin 16) : ℝ := if (a : ℕ) + (b : ℕ) = 18 then 1 else 0

/-- `1` on the diagonal, `0` off it. -/
def diag (a b : Fin 16) : ℝ := if a = b then 1 else 0

/-- How many pixels of level `a` have an inside neighbour of level `b`. -/
def pairCount (C D : Fin 16 → ι → ℝ) (v : ι → ℝ) (a b : Fin 16) : ℝ := ∑ p, C a p * v p * D b p

/-- How many pixels of level `l` have a padding neighbour. -/
def padCount (C : Fin 16 → ι → ℝ) (v : ι → ℝ) (l : Fin 16) : ℝ := ∑ p, (1 - v p) * C l p

/-- How many pixels have a padding neighbour. -/
def padTotal (v : ι → ℝ) : ℝ := ∑ p, (1 - v p)

/-- The table: both orders of every inside pair, and the padding's contribution. -/
def table (C D : Fin 16 → ι → ℝ) (v : ι → ℝ) (a b : Fin 16) : ℝ :=
  (pairCount C D v a b + pairCount C D v b a)
    + antiDiag a b * ((padTotal v - padCount C v a - padCount C v b) + padTotal v * diag a b)

/-- The weight of a padded pixel of level `l` in the table's total: `1` where a partner level exists, `0` elsewhere. -/
def padWeight (l : Fin 16) : ℝ := if 3 ≤ (l : ℕ) then 1 else 0

/-- The weight of a padded pixel of level `l` in the weighted total: the squared distance to its partner level. -/
def padSqWeight (l : Fin 16) : ℝ := if 3 ≤ (l : ℕ) then (2 * ((l : ℝ) + 1) - 20) * (2 * ((l : ℝ) + 1) - 20) else 0

/-- Whether the pixel and its neighbour both have a level. -/
def pairAt (C D : Fin 16 → ι → ℝ) (p : ι) : ℝ := ∑ a, ∑ b, C a p * D b p

/-- The squared level difference of a pixel and its neighbour, `0` where one of them has no level. -/
def sqDiffAt (C D : Fin 16 → ι → ℝ) (p : ι) : ℝ := ∑ a, ∑ b, C a p * D b p * sqDist a b

/-- The pixel's weight in the padding's correction of the total. -/
def padAt (C : Fin 16 → ι → ℝ) (p : ι) : ℝ := ∑ l, C l p * padWeight l

/-- The pixel's weight in the padding's correction of the weighted total. -/
def padSqAt (C : Fin 16 → ι → ℝ) (p : ι) : ℝ := ∑ l, C l p * padSqWeight l

/-- The contrast's numerator as the kernel accumulates it, pixel by pixel. -/
def numer (C D : Fin 16 → ι → ℝ) (v : ι → ℝ) : ℝ :=
  2 * (∑ p, v p * sqDiffAt C D p) + 728 * padTotal v - 2 * ∑ p, (1 - v p) * padSqAt C p

/-- The contrast's denominator as the kernel accumulates it, pixel by pixel. -/
def denom (C D : Fin 16 → ι → ℝ) (v : ι → ℝ) : ℝ :=
  2 * (∑ p, v p * pairAt C D p) + 14 * padTotal v - 2 * ∑ p, (1 - v p) * padAt C p

/-- A double sum of a function and of its transpose, under a symmetric weight, is twice the one. -/
theorem sum_add_transpose (w f : Fin 16 → Fin 16 → ℝ) (hw : ∀ a b, w a b = w b a) :
    ∑ a, ∑ b, w a b * (f a b + f b a) = 2 * ∑ a, ∑ b, w a b * f a b := by
  simp only [mul_add, Finset.sum_add_distrib, two_mul]
  congr 1
  rw [Finset.sum_comm]
  exact Finset.sum_congr rfl fun a _ => Finset.sum_congr rfl fun b _ => by rw [hw]

/-- A double sum of pair counts under a weight, pixel by pixel. -/
theorem sum_pairCount (C D : Fin 16 → ι → ℝ) (v : ι → ℝ) (w : Fin 16 → Fin 16 → ℝ) :
    ∑ a, ∑ b, w a b * pairCount C D v a b = ∑ p, v p * ∑ a, ∑ b, C a p * D b p * w a b := by
  simp only [pairCount, Finset.mul_sum]
  rw [Finset.sum_comm]
  simp only [fun b => Finset.sum_comm (s := (Finset.univ : Finset (Fin 16))) (t := (Finset.univ : Finset ι))
    (f := fun a p => w a b * (C a p * v p * D b p))]
  rw [Finset.sum_comm]
  refine Finset.sum_congr rfl fun p _ => ?_
  rw [Finset.sum_comm]
  exact Finset.sum_congr rfl fun a _ => Finset.sum_congr rfl fun b _ => by ring

/-- A sum of pad counts under a weight, pixel by pixel. -/
theorem sum_padCount (C : Fin 16 → ι → ℝ) (v : ι → ℝ) (w : Fin 16 → ℝ) :
    ∑ l, padCount C v l * w l = ∑ p, (1 - v p) * ∑ l, C l p * w l := by
  simp only [padCount, Finset.mul_sum, Finset.sum_mul]
  rw [Finset.sum_comm]
  exact Finset.sum_congr rfl fun p _ => Finset.sum_congr rfl fun l _ => by ring

/-- A row of the anti-diagonal holds one entry, at the partner level, or none. -/
theorem sum_antiDiag (a : Fin 16) (g : Fin 16 → ℝ) :
    ∑ b, antiDiag a b * g b = if h : 3 ≤ (a : ℕ) then g ⟨18 - a, by omega⟩ else 0 := by
  split
  · rename_i h
    rw [Finset.sum_eq_single ⟨18 - (a : ℕ), by omega⟩]
    · rw [antiDiag, if_pos (by simp only; omega), one_mul]
    · intro b _ hb
      rw [antiDiag, if_neg (fun he => hb (Fin.ext (by simp only; omega))), zero_mul]
    · exact fun h => absurd (Finset.mem_univ _) h
  · rename_i h
    refine Finset.sum_eq_zero fun b _ => ?_
    rw [antiDiag, if_neg (by omega), zero_mul]

set_option maxRecDepth 4096 in
/-- The padding's contribution to the total: fourteen table entries, less the padded pixels that have a partner. -/
theorem sum_pad (t : ℝ) (c : Fin 16 → ℝ) :
    ∑ a, ∑ b, antiDiag a b * ((t - c a - c b) + t * diag a b) = 14 * t - 2 * ∑ l, c l * padWeight l := by
  simp only [sum_antiDiag]
  simp [Fin.sum_univ_succ, diag, padWeight, Fin.ext_iff, Fin.succ]
  ring

set_option maxRecDepth 4096 in
/-- The padding's contribution to the weighted total. -/
theorem sum_pad_sq (t : ℝ) (c : Fin 16 → ℝ) :
    ∑ a, ∑ b, sqDist a b * (antiDiag a b * ((t - c a - c b) + t * diag a b))
      = 728 * t - 2 * ∑ l, c l * padSqWeight l := by
  simp only [mul_left_comm (sqDist _ _) (antiDiag _ _), sum_antiDiag]
  simp [Fin.sum_univ_succ, diag, padSqWeight, sqDist, Fin.ext_iff, Fin.succ]
  ring

/-- The table's total is the denominator. -/
theorem sum_table (C D : Fin 16 → ι → ℝ) (v : ι → ℝ) : ∑ a, ∑ b, table C D v a b = denom C D v := by
  have h1 := sum_add_transpose (fun _ _ => 1) (pairCount C D v) fun _ _ => rfl
  have h2 := sum_pairCount C D v fun _ _ => 1
  simp only [one_mul, mul_one] at h1 h2
  simp only [table, Finset.sum_add_distrib (f := fun b => pairCount C D v _ b + pairCount C D v b _)]
  rw [Finset.sum_add_distrib, h1, h2, sum_pad, sum_padCount]
  simp only [denom, pairAt, padAt]
  ring

/-- The table's total weighted by squared distance is the numerator. -/
theorem sum_sqDist_table (C D : Fin 16 → ι → ℝ) (v : ι → ℝ) :
    ∑ a, ∑ b, sqDist a b * table C D v a b = numer C D v := by
  have h1 := sum_add_transpose sqDist (pairCount C D v) fun a b => by unfold sqDist; ring
  have h2 := sum_pairCount C D v sqDist
  have h3 : ∀ a b, sqDist a b * table C D v a b = sqDist a b * (pairCount C D v a b + pairCount C D v b a)
      + sqDist a b * (antiDiag a b * ((padTotal v - padCount C v a - padCount C v b) + padTotal v * diag a b)) :=
    fun a b => mul_add _ _ _
  rw [Finset.sum_congr rfl fun a _ => Finset.sum_congr rfl fun b _ => h3 a b]
  simp only [Finset.sum_add_distrib]
  rw [h1, h2, sum_pad_sq, sum_padCount]
  simp only [numer, sqDiffAt, padSqAt]
  ring

/-- With one-hot levels and some padding, the denominator is positive: each padded pixel leaves at least twelve of its
    fourteen entries. -/
theorem denom_pos (C D : Fin 16 → ι → ℝ) (v : ι → ℝ) (hC : ∀ l p, 0 ≤ C l p) (hD : ∀ l p, 0 ≤ D l p)
    (hv0 : ∀ p, 0 ≤ v p) (hv1 : ∀ p, v p ≤ 1) (h1 : ∀ p, ∑ l, C l p ≤ 1) (ht : 0 < padTotal v) : 0 < denom C D v := by
  have hpair : 0 ≤ ∑ p, v p * pairAt C D p :=
    Finset.sum_nonneg fun p _ => mul_nonneg (hv0 p)
      (Finset.sum_nonneg fun a _ => Finset.sum_nonneg fun b _ => mul_nonneg (hC a p) (hD b p))
  have hpad : ∑ p, (1 - v p) * padAt C p ≤ padTotal v := by
    refine Finset.sum_le_sum fun p _ => ?_
    have hw : padAt C p ≤ 1 := le_trans (Finset.sum_le_sum fun l _ => by
      unfold padWeight; split
      · simp
      · simpa using hC l p) (h1 p)
    nlinarith [hv1 p]
  unfold denom
  linarith

end Cert.Glcm

end
-- ==== Proof.Glcm.Words.lean ====
/-
  The words and the two lane operations of the kernel and of the reference, as extended reals.
-/
module

public import Idealize.ShloMosaic.Lib.Pointwise

@[expose] public section

noncomputable section

namespace Cert.Glcm

open Idealize.ShloMosaic

/-- The word of two. -/
theorem word_two : Ideal.ofBits .f32 0x40000000#32 = ((2 : ℝ) : EReal) := by
  simp [Ideal.ofBits, Ideal.ieee, -EReal.coe_mul, -EReal.coe_add]; norm_num

/-- The word of four. -/
theorem word_four : Ideal.ofBits .f32 0x40800000#32 = ((4 : ℝ) : EReal) := by
  simp [Ideal.ofBits, Ideal.ieee, -EReal.coe_mul, -EReal.coe_add]; norm_num

/-- The word of fifteen. -/
theorem word_fifteen : Ideal.ofBits .f32 0x41700000#32 = ((15 : ℝ) : EReal) := by
  simp [Ideal.ofBits, Ideal.ieee, -EReal.coe_mul, -EReal.coe_add]; norm_num

/-- The word of twenty. -/
theorem word_twenty : Ideal.ofBits .f32 0x41A00000#32 = ((20 : ℝ) : EReal) := by
  simp [Ideal.ofBits, Ideal.ieee, -EReal.coe_mul, -EReal.coe_add]; norm_num

/-- The word of `728 * 5120`. -/
theorem word_sq_line : Ideal.ofBits .f32 0x4A638000#32 = ((728 * 5120 : ℝ) : EReal) := by
  simp [Ideal.ofBits, Ideal.ieee, -EReal.coe_mul, -EReal.coe_add]; norm_num

/-- The word of `728 * 10215`. -/
theorem word_sq_corner : Ideal.ofBits .f32 0x4AE2F1D0#32 = ((728 * 10215 : ℝ) : EReal) := by
  simp [Ideal.ofBits, Ideal.ieee, -EReal.coe_mul, -EReal.coe_add]; norm_num

/-- The word of `14 * 5120`. -/
theorem word_line : Ideal.ofBits .f32 0x478C0000#32 = ((14 * 5120 : ℝ) : EReal) := by
  simp [Ideal.ofBits, Ideal.ieee, -EReal.coe_mul, -EReal.coe_add]; norm_num

/-- The word of `14 * 10215`. -/
theorem word_corner : Ideal.ofBits .f32 0x480BA880#32 = ((14 * 10215 : ℝ) : EReal) := by
  simp [Ideal.ofBits, Ideal.ieee, -EReal.coe_mul, -EReal.coe_add]; norm_num

/-- The word a minimum starts from. -/
theorem word_top : Ideal.ofBits .f32 0x7F800000#32 = ⊤ := by simp [Ideal.ofBits, Ideal.ieee]

/-- The word a maximum starts from. -/
theorem word_bot : Ideal.ofBits .f32 0xFF800000#32 = ⊥ := by simp [Ideal.ofBits, Ideal.ieee]

/-- A condition widened to a word and read as a number is `1` where it holds and `0` elsewhere. -/
theorem sitofp_flag (p : Prop) [Decidable p] :
    FloatOps.sitofp (F := Ideal) .f32 (BitVec.setWidth 32 (BitVec.ofBool (decide p))) = if p then (1 : EReal) else 0 := by
  by_cases h : p
  · simp only [h, decide_true, if_true]
    show (((BitVec.setWidth 32 (BitVec.ofBool true)).toInt : ℝ) : EReal) = 1
    rw [show (BitVec.setWidth 32 (BitVec.ofBool true)).toInt = 1 by decide]; norm_num
  · simp only [h, decide_false, if_false]
    show (((BitVec.setWidth 32 (BitVec.ofBool false)).toInt : ℝ) : EReal) = 0
    rw [show (BitVec.setWidth 32 (BitVec.ofBool false)).toInt = 0 by decide]; norm_num

/-- A condition read as a number without a sign is `1` where it holds and `0` elsewhere. -/
theorem uitofp_flag (b : Bool) :
    FloatOps.uitofp (F := Ideal) .f32 (BitVec.ofBool b) = if b then (1 : EReal) else 0 := by
  cases b
  · show (((BitVec.ofBool false).toNat : ℝ) : EReal) = _
    simp
  · show (((BitVec.ofBool true).toNat : ℝ) : EReal) = _
    simp

end Cert.Glcm

end
-- ==== Proof.Glcm.Rims.lean ====
/-
  The scalars of the kernel as sums over the image.

  The kernel holds three images: the rounded levels `r`, the masks `m` (`1` where the level is a whole number), and the
  shifted masked levels `n`. For each neighbour offset it sums a lane over the whole image, takes off the same lane's sum
  over the offset's rim (the pixels whose neighbour lies outside the image), and sums the padding's lanes over that rim.
-/
module

public import proofs.«01_k».proof.Proof.Gen.KernelIdeal.Skeleton
public import proofs.«01_k».proof.Proof.Glcm.Words

@[expose] public section

noncomputable section

namespace Cert.Glcm

open Idealize.ShloMosaic Cert.KernelIdeal Cert.KernelIdeal.Gen Cert.KernelIdeal.Facts

/-- A lane's values by row and column. -/
abbrev Lane : Type := Fin 1024 → Fin 1024 → EReal

/-- A lane summed over the image. -/
def whole (f : Lane) : EReal := ∑ y, ∑ x, f y x

/-- A lane summed over the last five columns. -/
def rimRight (f : Lane) : EReal := ∑ y, ∑ x : Fin 5, f y ⟨1019 + x, by omega⟩

/-- A lane summed over the first five rows. -/
def rimTop (f : Lane) : EReal := ∑ y : Fin 5, ∑ x, f ⟨y, by omega⟩ x

/-- A lane summed over the first five rows, and below them over the last five columns. -/
def rimTopRight (f : Lane) : EReal :=
  rimTop f + ∑ y : Fin 1019, ∑ x : Fin 5, f ⟨5 + y, by omega⟩ ⟨1019 + x, by omega⟩

/-- A lane summed over the first five rows, and below them over the first five columns. -/
def rimTopLeft (f : Lane) : EReal :=
  rimTop f + ∑ y : Fin 1019, ∑ x : Fin 5, f ⟨5 + y, by omega⟩ ⟨x, by omega⟩

/-- A pixel's mask where its neighbour has a level, `0` elsewhere. -/
def pairW (m n : EReal) : EReal := if 0 < n then m else 0

/-- The pair's weight times the squared difference of the two levels. -/
def pairSq (r m n : EReal) : EReal := pairW m n * (r - n) * (r - n)

/-- A pixel's mask where its level is at least four, `0` elsewhere. -/
def padW (r m : EReal) : EReal := m * if ((4 : ℝ) : EReal) ≤ r then 1 else 0

/-- The padded pixel's weight times the squared distance to its partner level. -/
def padSq (r m : EReal) : EReal :=
  padW r m * (((2 : ℝ) : EReal) * r - ((20 : ℝ) : EReal)) * (((2 : ℝ) : EReal) * r - ((20 : ℝ) : EReal))

/-- The kernel's quotient for one offset: the rim, the padding's two constants, and the three images. -/
def quot (rim : Lane → EReal) (k k' : ℝ) (r m n : Lane) : EReal :=
  Ideal.div
    (((2 : ℝ) : EReal) * (whole (fun y x => pairSq (r y x) (m y x) (n y x)) - rim fun y x => pairSq (r y x) (m y x) (n y x))
      + (k : EReal) - ((2 : ℝ) : EReal) * rim fun y x => padSq (r y x) (m y x))
    (((2 : ℝ) : EReal) * (whole (fun y x => pairW (m y x) (n y x)) - rim fun y x => pairW (m y x) (n y x))
      + (k' : EReal) - ((2 : ℝ) : EReal) * rim fun y x => padW (r y x) (m y x))

/-- An image's values by row and column. -/
def lane (v : FVec Ideal S1024x1024 .f32) : Lane := fun y x => v (ix2 y x)

variable [Cert.KernelIdeal.Facts]

/-- The first offset's scalar is the quotient over the last columns. -/
theorem quot_right (r m n : FVec Ideal S1024x1024 .f32) (p t : FVec Ideal S1024x1024 .f32) (s : Ideal .f32)
    (w : FVec Ideal S1024x5 .f32) (hp : ∀ y x, p (ix2 y x) = pairW (m (ix2 y x)) (n (ix2 y x)))
    (ht : ∀ y x, t (ix2 y x) = pairSq (r (ix2 y x)) (m (ix2 y x)) (n (ix2 y x))) (hs : s = whole (lane t))
    (hw : ∀ y (x : Fin 5), w (ix2 y x) = t (ix2 y ⟨1019 + x, by omega⟩)) :
    k0_pay19 (k0_pay14 p) (k0_pay17 r m) (k0_pay18 r m s w) (Scalar.ofBits .f32 0x40000000#32)
      = quot rimRight (728 * 5120) (14 * 5120) (lane r) (lane m) (lane n) := by
  have h : (lane t) = fun y x => pairSq (lane r y x) (lane m y x) (lane n y x) := by
    funext y x; exact ht y x
  rw [hs, h]
  pointwise [k0_pay19, k0_pay14, k0_pay17, k0_pay18, k0_pay16, k0_pay15]
  simp only [hp, ht, hw, sitofp_flag, word_two, word_four, word_twenty, word_sq_line, word_line]
  rfl

/-- The second offset's scalar is the quotient over the first rows and the last columns. -/
theorem quot_topRight (r m n : FVec Ideal S1024x1024 .f32) :
    k0_pay31 (k0_pay22 m n) (k0_pay28 r m (k0_pay23 r) (k0_pay24 m)) (k0_pay29 r m (k0_pay23 r) (k0_pay24 m))
        (k0_pay30 (k0_pay21 r m n))
      = quot rimTopRight (728 * 10215) (14 * 10215) (lane r) (lane m) (lane n) := by
  pointwise [k0_pay31, k0_pay22, k0_pay28, k0_pay29, k0_pay30, k0_pay21, k0_pay20, k0_pay23, k0_pay24, k0_pay25, k0_pay26,
    k0_pay27]
  simp only [sitofp_flag, word_two, word_four, word_twenty, word_sq_corner, word_corner]
  rfl

/-- The third offset's scalar is the quotient over the first rows. -/
theorem quot_top (r m n : FVec Ideal S1024x1024 .f32) :
    k0_pay39 (k0_pay33 r m n) (k0_pay34 m n) (k0_pay36 m) (k0_pay37 r) (k0_pay38 r)
      = quot rimTop (728 * 5120) (14 * 5120) (lane r) (lane m) (lane n) := by
  pointwise [k0_pay39, k0_pay33, k0_pay34, k0_pay36, k0_pay37, k0_pay38, k0_pay32, k0_pay35]
  simp only [sitofp_flag, word_two, word_four, word_twenty, word_sq_line, word_line]
  rfl

/-- The stored lanes are the four scalars, the last of them the quotient over the first rows and the first columns. -/
theorem quot_topLeft (r m n : FVec Ideal S1024x1024 .f32) (a b c : Ideal .f32) (o : Fin 4) :
    k0_pay1 a b c (k0_pay45 (k0_pay42 r m n) (k0_pay43 r m n) (k0_pay44 r m n)) (k0_pay46 (k0_pay40 m n)) (k0_pay49 r m)
        (k0_pay50 r m) (k0_pay51 r) (k0_pay52 m) (k0_pay53 r) (Scalar.ofBits .f32 0x41A00000#32) (ix3 0 0 o)
      = ![a, b, c, quot rimTopLeft (728 * 10215) (14 * 10215) (lane r) (lane m) (lane n)] o := by
  fin_cases o <;> pointwise [k0_pay1, k0_pay45, k0_pay42, k0_pay43, k0_pay44, k0_pay46, k0_pay40, k0_pay41, k0_pay49, k0_pay50, k0_pay51,
    k0_pay52, k0_pay53, k0_pay47, k0_pay48]
  simp only [sitofp_flag, word_two, word_four, word_twenty, word_sq_corner, word_corner]
  rfl

end Cert.Glcm

end
-- ==== Proof.Glcm.Pixel.lean ====
/-
  One pixel and its neighbour: the kernel's lanes as sums over the sixteen levels.

  A quantised pixel `q` is at a level `1 … 16`, or a real number between two levels, or `⊥` (an image of one single value,
  where `0 / 0` is taken). The kernel rounds it, compares it with its rounding, and weighs the pair by comparisons; the
  reference compares it with the sixteen levels.
-/
module

public import proofs.«01_k».proof.Proof.Glcm.Counts
public import proofs.«01_k».proof.Proof.Glcm.Rims

@[expose] public section

noncomputable section

namespace Cert.Glcm

open Idealize.ShloMosaic

/-- A pixel rounded to the nearest whole number. -/
def rnd (q : EReal) : EReal := Ideal.liftRound Ideal.roundHalfEven q

/-- `1` where the pixel is its own rounding, `0` elsewhere. -/
def msk (q : EReal) : EReal := if q = rnd q then 1 else 0

/-- The rounding, masked. -/
def lev (q : EReal) : EReal := rnd q * msk q

/-- Level `l`, counted from `0`, as a number. -/
def level (l : Fin 16) : ℝ := ((l : ℕ) : ℝ) + 1

/-- `1` where the pixel is at level `l`, `0` elsewhere. -/
def ind (q : EReal) (l : Fin 16) : ℝ := if q = (level l : EReal) then 1 else 0

/-- A real pixel between the first level and the last. -/
def Between (q : EReal) : Prop := ∃ x : ℝ, q = (x : EReal) ∧ 1 ≤ x ∧ x ≤ 16

theorem ind_nonneg (q : EReal) (l : Fin 16) : 0 ≤ ind q l := by unfold ind; split <;> norm_num

theorem level_inj {l k : Fin 16} (h : (level l : EReal) = (level k : EReal)) : l = k := by
  have : ((l : ℕ) : ℝ) = ((k : ℕ) : ℝ) := by have := EReal.coe_eq_coe_iff.1 h; unfold level at this; linarith
  exact Fin.ext (by exact_mod_cast this)

/-- A whole number is its own rounding. -/
theorem round_nat (n : ℕ) : Ideal.roundHalfEven ((n : ℝ) + 1) = (n : ℤ) + 1 := by
  have h : ⌊(n : ℝ) + 1⌋ = (n : ℤ) + 1 := by
    rw [show ((n : ℝ) + 1) = (((n : ℤ) + 1 : ℤ) : ℝ) by push_cast; ring]; exact Int.floor_intCast _
  unfold Ideal.roundHalfEven
  simp only [h]
  rw [if_pos (by push_cast; norm_num)]

theorem rnd_level (l : Fin 16) : rnd (level l : EReal) = (level l : EReal) := by
  unfold rnd level
  rw [Ideal.liftRound_coe, round_nat]
  push_cast; rfl

theorem msk_level (l : Fin 16) : msk (level l : EReal) = 1 := if_pos (rnd_level l).symm

theorem lev_level (l : Fin 16) : lev (level l : EReal) = (level l : EReal) := by
  rw [lev, rnd_level, msk_level, mul_one]

theorem ind_level (l k : Fin 16) : ind (level l : EReal) k = if k = l then 1 else 0 := by
  unfold ind
  by_cases h : k = l
  · rw [if_pos h, if_pos (by rw [h])]
  · rw [if_neg h, if_neg (fun e => h (level_inj e).symm)]

/-- A sum over the levels, weighed by a pixel at a level, is the term at that level. -/
theorem sum_ind_level (l : Fin 16) (f : Fin 16 → ℝ) : ∑ k, ind (level l : EReal) k * f k = f l := by
  simp only [ind_level, ite_mul, one_mul, zero_mul, Finset.sum_ite_eq', Finset.mem_univ, if_true]

/-- A double sum over the levels, weighed by two pixels at levels, is the term at those levels. -/
theorem sum_sum_ind_level (l k : Fin 16) (f : Fin 16 → Fin 16 → ℝ) :
    ∑ a, ∑ b, ind (level l : EReal) a * ind (level k : EReal) b * f a b = f l k := by
  simp only [mul_assoc, ← Finset.mul_sum, sum_ind_level]

/-- A real pixel between the first and the last level is at a level, or is not its own rounding and at no level. -/
theorem between_cases {q : EReal} (h : Between q) :
    (∃ l, q = (level l : EReal)) ∨ ((∃ x : ℝ, rnd q = (x : EReal)) ∧ msk q = 0 ∧ ∀ l, ind q l = 0) := by
  obtain ⟨x, rfl, h1, h16⟩ := h
  by_cases he : ((Ideal.roundHalfEven x : ℤ) : ℝ) = x
  · left
    set n := Ideal.roundHalfEven x
    have hn1 : (1 : ℤ) ≤ n := by exact_mod_cast he ▸ h1
    have hn16 : n ≤ (16 : ℤ) := by exact_mod_cast he ▸ h16
    refine ⟨⟨(n - 1).toNat, by omega⟩, ?_⟩
    refine EReal.coe_eq_coe_iff.2 (he.symm.trans ?_)
    unfold level
    have : (((n - 1).toNat : ℤ) : ℝ) = ((n - 1 : ℤ) : ℝ) := by rw [Int.toNat_of_nonneg (by omega)]
    push_cast at this ⊢
    linarith
  · right
    have hne : ¬ ((x : EReal) = rnd (x : EReal)) := fun e => he (by
      rw [rnd, Ideal.liftRound_coe] at e; exact (EReal.coe_eq_coe_iff.1 e).symm)
    refine ⟨⟨_, Ideal.liftRound_coe _ _⟩, if_neg hne, fun l => if_neg fun e => hne ?_⟩
    rw [e, rnd_level]

theorem rnd_bot : rnd ⊥ = ⊥ := rfl

theorem msk_bot : msk ⊥ = 1 := if_pos rfl

theorem lev_bot : lev ⊥ = ⊥ := by rw [lev, rnd_bot, msk_bot, mul_one]

theorem ind_bot (l : Fin 16) : ind ⊥ l = 0 := if_neg (EReal.bot_ne_coe _)

/-- At most one level is taken. -/
theorem sum_ind_le (q : EReal) : ∑ l, ind q l ≤ 1 := by
  by_cases h : ∃ l, q = (level l : EReal)
  · obtain ⟨l, rfl⟩ := h
    simp [ind_level]
  · rw [Finset.sum_eq_zero (f := ind q) fun l _ => if_neg fun e => h ⟨l, e⟩]; norm_num

/-- A pixel and its neighbour, both real or both `⊥`, as the kernel's lanes see them. -/
def Pair (q q' : EReal) : Prop := (Between q ∧ Between q') ∨ (q = ⊥ ∧ q' = ⊥)

/-- The pair's weight counts the pairs of levels. -/
theorem pairW_eq {q q' : EReal} (h : Pair q q') :
    pairW (msk q) (lev q') = ((∑ a, ∑ b, ind q a * ind q' b : ℝ) : EReal) := by
  rcases h with ⟨h, h'⟩ | ⟨rfl, rfl⟩
  · rcases between_cases h' with ⟨k, rfl⟩ | ⟨⟨x', hx'⟩, hm', hi'⟩
    · have hk : 0 < (level k : EReal) := by
        rw [← EReal.coe_zero, EReal.coe_lt_coe_iff]; unfold level; positivity
      rw [pairW, lev_level, if_pos hk]
      rcases between_cases h with ⟨l, rfl⟩ | ⟨⟨x, hx⟩, hm, hi⟩
      · simp [msk_level, ind_level]
      · simp [hm, hi]
    · rw [pairW, lev, hm', mul_zero, if_neg (lt_irrefl _)]
      simp [hi']
  · rw [pairW, lev_bot, if_neg (by simp)]
    simp [ind_bot]

/-- The pair's weighted lane sums the squared differences of the levels. -/
theorem pairSq_eq {q q' : EReal} (h : Pair q q') :
    pairSq (rnd q) (msk q) (lev q') = ((∑ a, ∑ b, ind q a * ind q' b * sqDist a b : ℝ) : EReal) := by
  have hw := pairW_eq h
  rcases h with ⟨h, h'⟩ | ⟨rfl, rfl⟩
  · rcases between_cases h' with ⟨k, rfl⟩ | ⟨⟨x', hx'⟩, hm', hi'⟩
    · rcases between_cases h with ⟨l, rfl⟩ | ⟨⟨x, hx⟩, hm, hi⟩
      · rw [pairSq, hw, rnd_level, lev_level, ← EReal.coe_sub, ← EReal.coe_mul, ← EReal.coe_mul, sum_sum_ind_level]
        have := sum_sum_ind_level l k fun _ _ => 1
        simp only [mul_one] at this
        rw [this]
        congr 1
        unfold sqDist level
        ring
      · rw [pairSq, hw]
        simp [hi]
    · rw [pairSq, hw]
      simp [hi']
  · rw [pairSq, hw]
    simp [ind_bot]

/-- The padded pixel's weight sums its levels' weights. -/
theorem padW_eq {q : EReal} (h : Between q ∨ q = ⊥) :
    padW (rnd q) (msk q) = ((∑ l, ind q l * padWeight l : ℝ) : EReal) := by
  rcases h with h | rfl
  · rcases between_cases h with ⟨l, rfl⟩ | ⟨⟨x, hx⟩, hm, hi⟩
    · rw [padW, rnd_level, msk_level, one_mul]
      have : (((4 : ℝ) : EReal) ≤ (level l : EReal)) ↔ 3 ≤ (l : ℕ) := by
        rw [EReal.coe_le_coe_iff]; unfold level
        constructor
        · intro h; have : (3 : ℝ) ≤ ((l : ℕ) : ℝ) := by linarith
          exact_mod_cast this
        · intro h; have : (3 : ℝ) ≤ ((l : ℕ) : ℝ) := by exact_mod_cast h
          linarith
      rw [sum_ind_level, padWeight]
      simp only [this]
      split <;> rfl
    · rw [padW, hm, zero_mul]; simp [hi]
  · rw [padW, rnd_bot, if_neg (by simp), mul_zero]; simp [ind_bot]

/-- The padded pixel's weighted lane sums its levels' squared distances. -/
theorem padSq_eq {q : EReal} (h : Between q ∨ q = ⊥) :
    padSq (rnd q) (msk q) = ((∑ l, ind q l * padSqWeight l : ℝ) : EReal) := by
  have hw := padW_eq h
  rcases h with h | rfl
  · rcases between_cases h with ⟨l, rfl⟩ | ⟨⟨x, hx⟩, hm, hi⟩
    · rw [padSq, hw, rnd_level, ← EReal.coe_mul, ← EReal.coe_sub, ← EReal.coe_mul, ← EReal.coe_mul, sum_ind_level, sum_ind_level]
      congr 1
      unfold padWeight padSqWeight level
      split <;> ring
    · rw [padSq, hw]; simp [hi]
  · rw [padSq, hw]; simp [ind_bot]

end Cert.Glcm

end
-- ==== Proof.Glcm.Insides.lean ====
/-
  The kernel's quotient of one offset is the table's weighted total over its total.

  A rim's lane sum is the sum over the image of the lane where the neighbour lies outside; the two padding constants are
  `728` and `14` times the number of such pixels.
-/
module

public import proofs.«01_k».proof.Proof.Glcm.Pixel

@[expose] public section

noncomputable section

namespace Cert.Glcm

open Idealize.ShloMosaic

/-- A pixel's place: its row and its column. -/
abbrev Place : Type := Fin 1024 × Fin 1024

/-- `1` where the neighbour five columns to the right is inside. -/
def inRight (p : Place) : ℝ := if (p.2 : ℕ) < 1019 then 1 else 0

/-- `1` where the neighbour five rows up is inside. -/
def inTop (p : Place) : ℝ := if 5 ≤ (p.1 : ℕ) then 1 else 0

/-- `1` where the neighbour five rows up and five columns to the right is inside. -/
def inTopRight (p : Place) : ℝ := if 5 ≤ (p.1 : ℕ) ∧ (p.2 : ℕ) < 1019 then 1 else 0

/-- `1` where the neighbour five rows up and five columns to the left is inside. -/
def inTopLeft (p : Place) : ℝ := if 5 ≤ (p.1 : ℕ) ∧ 5 ≤ (p.2 : ℕ) then 1 else 0

/-- A finite real sum, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a line of the image, its first 1019 places and its last five. -/
theorem sum_last (g : Fin 1024 → ℝ) :
    ∑ i, g i = ∑ i : Fin 1019, g ⟨i, by omega⟩ + ∑ i : Fin 5, g ⟨1019 + i, by omega⟩ :=
  Fin.sum_univ_add (a := 1019) (b := 5) g

/-- A sum over a line of the image, its first five places and its last 1019. -/
theorem sum_first (g : Fin 1024 → ℝ) :
    ∑ i, g i = ∑ i : Fin 5, g ⟨i, by omega⟩ + ∑ i : Fin 1019, g ⟨5 + i, by omega⟩ :=
  Fin.sum_univ_add (a := 5) (b := 1019) g

/-- What is off the last five places counts nothing. -/
theorem sum_off_last (g : Fin 1024 → ℝ) :
    ∑ i : Fin 1024, (1 - if (i : ℕ) < 1019 then 1 else 0) * g i = ∑ i : Fin 5, g ⟨1019 + i, by omega⟩ := by
  rw [sum_last, Finset.sum_eq_zero, zero_add]
  · refine Finset.sum_congr rfl fun i _ => ?_
    rw [if_neg (by simp only; omega)]; ring
  · intro i _
    rw [if_pos (by simp only; omega)]; ring

/-- What is off the first five places counts nothing. -/
theorem sum_off_first (g : Fin 1024 → ℝ) :
    ∑ i : Fin 1024, (1 - if 5 ≤ (i : ℕ) then 1 else 0) * g i = ∑ i : Fin 5, g ⟨i, by omega⟩ := by
  rw [sum_first]
  nth_rewrite 2 [Finset.sum_eq_zero]
  · rw [add_zero]
    refine Finset.sum_congr rfl fun i _ => ?_
    rw [if_neg (by simp only; omega)]; ring
  · intro i _
    rw [if_pos (by simp only; omega)]; ring

/-- A rim sums a real lane where the neighbour lies outside. -/
def IsRim (rim : Lane → EReal) (v : Place → ℝ) : Prop :=
  ∀ f : Place → ℝ, (rim fun y x => (f (y, x) : EReal)) = ((∑ p, (1 - v p) * f p : ℝ) : EReal)

theorem isRim_right : IsRim rimRight inRight := fun f => by
  simp only [rimRight, ← coe_sum]
  refine EReal.coe_eq_coe_iff.2 ?_
  rw [Fintype.sum_prod_type]
  exact Finset.sum_congr rfl fun y _ => (sum_off_last fun x => f (y, x)).symm

theorem isRim_top : IsRim rimTop inTop := fun f => by
  simp only [rimTop, ← coe_sum]
  refine EReal.coe_eq_coe_iff.2 ?_
  rw [Fintype.sum_prod_type]
  exact (sum_off_first fun y => ∑ x, f (y, x)).symm.trans (Finset.sum_congr rfl fun y _ => Finset.mul_sum _ _ _)

theorem isRim_topRight : IsRim rimTopRight inTopRight := fun f => by
  simp only [rimTopRight, rimTop, ← coe_sum, ← EReal.coe_add]
  refine EReal.coe_eq_coe_iff.2 ?_
  rw [Fintype.sum_prod_type, sum_first]
  refine congrArg₂ (· + ·) ?_ ?_
  · refine Finset.sum_congr rfl fun y _ => Finset.sum_congr rfl fun x _ => ?_
    rw [inTopRight, if_neg (by simp only; omega)]; ring
  · refine Finset.sum_congr rfl fun y _ => ?_
    rw [← sum_off_last fun x => f (⟨5 + y, by omega⟩, x)]
    refine Finset.sum_congr rfl fun x _ => ?_
    simp only [inTopRight, Nat.le_add_right, true_and]

theorem isRim_topLeft : IsRim rimTopLeft inTopLeft := fun f => by
  simp only [rimTopLeft, rimTop, ← coe_sum, ← EReal.coe_add]
  refine EReal.coe_eq_coe_iff.2 ?_
  rw [Fintype.sum_prod_type, sum_first]
  refine congrArg₂ (· + ·) ?_ ?_
  · refine Finset.sum_congr rfl fun y _ => Finset.sum_congr rfl fun x _ => ?_
    rw [inTopLeft, if_neg (by simp only; omega)]; ring
  · refine Finset.sum_congr rfl fun y _ => ?_
    rw [← sum_off_first fun x => f (⟨5 + y, by omega⟩, x)]
    refine Finset.sum_congr rfl fun x _ => ?_
    simp only [inTopLeft, Nat.le_add_right, true_and]

/-- The number of padded places, read off the rim's own sum of ones. -/
theorem padTotal_of_isRim {rim : Lane → EReal} {v : Place → ℝ} (h : IsRim rim v) {k : ℝ}
    (hk : (rim fun _ _ => ((1 : ℝ) : EReal)) = (k : EReal)) : padTotal v = k := by
  have := (h fun _ => 1).symm.trans hk
  simpa [padTotal] using EReal.coe_eq_coe_iff.1 this

/-- Five places on each of 1024 lines. -/
theorem ones_line : ∑ _y : Fin 1024, ∑ _x : Fin 5, (1 : ℝ) = 5120 := by
  simp only [Finset.sum_const, Finset.card_univ, Fintype.card_fin, nsmul_eq_mul]; norm_num

/-- Five lines of 1024 places. -/
theorem ones_top : ∑ _y : Fin 5, ∑ _x : Fin 1024, (1 : ℝ) = 5120 := by
  simp only [Finset.sum_const, Finset.card_univ, Fintype.card_fin, nsmul_eq_mul]; norm_num

/-- Five places on each of 1019 lines. -/
theorem ones_side : ∑ _y : Fin 1019, ∑ _x : Fin 5, (1 : ℝ) = 5095 := by
  simp only [Finset.sum_const, Finset.card_univ, Fintype.card_fin, nsmul_eq_mul]; norm_num

theorem padTotal_right : padTotal inRight = 5120 :=
  padTotal_of_isRim isRim_right (by simp only [rimRight, ← coe_sum, ones_line])

theorem padTotal_top : padTotal inTop = 5120 :=
  padTotal_of_isRim isRim_top (by simp only [rimTop, ← coe_sum, ones_top])

theorem padTotal_topRight : padTotal inTopRight = 10215 :=
  padTotal_of_isRim isRim_topRight (by
    simp only [rimTopRight, rimTop, ← coe_sum, ← EReal.coe_add, ones_top, ones_side]
    exact EReal.coe_eq_coe_iff.2 (by norm_num))

theorem padTotal_topLeft : padTotal inTopLeft = 10215 :=
  padTotal_of_isRim isRim_topLeft (by
    simp only [rimTopLeft, rimTop, ← coe_sum, ← EReal.coe_add, ones_top, ones_side]
    exact EReal.coe_eq_coe_iff.2 (by norm_num))

/-- A real lane summed over the image. -/
theorem whole_coe (f : Place → ℝ) : (whole fun y x => (f (y, x) : EReal)) = ((∑ p, f p : ℝ) : EReal) := by
  simp only [whole, ← coe_sum, Fintype.sum_prod_type]

/-- The levels of an image, one-hot. -/
def hot (q : Place → EReal) (l : Fin 16) (p : Place) : ℝ := ind (q p) l

/-- Every pixel of the image is real between the first level and the last, or every one is `⊥`. -/
def Quantised (q : Place → EReal) : Prop := (∀ p, Between (q p)) ∨ ∀ p, q p = ⊥

/-- The kernel's quotient for one offset: the table's weighted total over its total. -/
theorem quot_eq {rim : Lane → EReal} {v : Place → ℝ} (hrim : IsRim rim v) {k : ℝ} (hk : padTotal v = k)
    {q : Place → EReal} (hq : Quantised q) (nb : Place → Place) (r m n : Lane) (hr : ∀ p, r p.1 p.2 = rnd (q p))
    (hm : ∀ p, m p.1 p.2 = msk (q p)) (hn : ∀ p, n p.1 p.2 = lev (q (nb p))) :
    quot rim (728 * k) (14 * k) r m n
      = Ideal.div (numer (hot q) (fun l p => hot q l (nb p)) v : EReal)
          (denom (hot q) (fun l p => hot q l (nb p)) v : EReal) := by
  have hpair : ∀ p, Pair (q p) (q (nb p)) := fun p => hq.imp (fun h => ⟨h _, h _⟩) (fun h => ⟨h _, h _⟩)
  have hone : ∀ p, Between (q p) ∨ q p = ⊥ := fun p => hq.imp (fun h => h _) (fun h => h _)
  have e1 : (fun y x => pairSq (r y x) (m y x) (n y x))
      = fun y x => ((sqDiffAt (hot q) (fun l p => hot q l (nb p)) (y, x) : ℝ) : EReal) := by
    funext y x
    rw [hr (y, x), hm (y, x), hn (y, x), pairSq_eq (hpair (y, x))]; rfl
  have e2 : (fun y x => pairW (m y x) (n y x))
      = fun y x => ((pairAt (hot q) (fun l p => hot q l (nb p)) (y, x) : ℝ) : EReal) := by
    funext y x
    rw [hm (y, x), hn (y, x), pairW_eq (hpair (y, x))]; rfl
  have e3 : (fun y x => padSq (r y x) (m y x)) = fun y x => ((padSqAt (hot q) (y, x) : ℝ) : EReal) := by
    funext y x
    rw [hr (y, x), hm (y, x), padSq_eq (hone (y, x))]; rfl
  have e4 : (fun y x => padW (r y x) (m y x)) = fun y x => ((padAt (hot q) (y, x) : ℝ) : EReal) := by
    funext y x
    rw [hr (y, x), hm (y, x), padW_eq (hone (y, x))]; rfl
  have e5 : ∀ f : Place → ℝ, ∑ p, f p - ∑ p, (1 - v p) * f p = ∑ p, v p * f p := fun f => by
    rw [← Finset.sum_sub_distrib]
    exact Finset.sum_congr rfl fun p _ => by ring
  rw [quot, e1, e2, e3, e4, whole_coe, whole_coe, hrim, hrim, hrim, hrim]
  simp only [← EReal.coe_sub, ← EReal.coe_mul, ← EReal.coe_add, e5, ← hk]
  rfl

end Cert.Glcm

end
-- ==== Proof.Glcm.Quantise.lean ====
/-
  The quantisation of an image: `15 * (g - lo) / (hi - lo) + 1`, with the image's least and greatest value.

  It is real between `1` and `16` at every place, or `⊥` at every place (an image of one single finite value).
-/
module

public import proofs.«01_k».proof.Proof.Glcm.Insides

@[expose] public section

noncomputable section

namespace Cert.Glcm

open Idealize.ShloMosaic

/-- The least value of an image. -/
def lo (g : Place → EReal) : EReal := Finset.univ.fold min ⊤ g

/-- The greatest value of an image. -/
def hi (g : Place → EReal) : EReal := Finset.univ.fold max ⊥ g

/-- One value quantised between a least and a greatest one. -/
def quantAt (a b x : EReal) : EReal := Ideal.div (((15 : ℝ) : EReal) * (x - a)) (b - a) + 1

/-- The quantised image. -/
def quant (g : Place → EReal) (p : Place) : EReal := quantAt (lo g) (hi g) (g p)

/-- The least of finitely many values is at most each. -/
theorem fold_min_le_apply {ι : Type*} [Fintype ι] (g : ι → EReal) (p : ι) : Finset.univ.fold min ⊤ g ≤ g p :=
  (Finset.fold_min_le _).2 (.inr ⟨p, Finset.mem_univ _, le_rfl⟩)

/-- The greatest of finitely many values is at least each. -/
theorem apply_le_fold_max {ι : Type*} [Fintype ι] (g : ι → EReal) (p : ι) : g p ≤ Finset.univ.fold max ⊥ g :=
  (Finset.le_fold_max _).2 (.inr ⟨p, Finset.mem_univ _, le_rfl⟩)

theorem lo_le (g : Place → EReal) (p : Place) : lo g ≤ g p := fold_min_le_apply g p

theorem le_hi (g : Place → EReal) (p : Place) : g p ≤ hi g := apply_le_fold_max g p

theorem between_one : Between 1 := ⟨1, by norm_num, le_rfl, by norm_num⟩

/-- A range of infinite width quantises every value to `1`. -/
theorem quantAt_wide {a b : EReal} (x : EReal) (h : b - a = ⊤ ∨ b - a = ⊥) : quantAt a b x = 1 := by
  rw [quantAt]
  rcases h with h | h <;> rw [h, Ideal.div, if_neg (by simp)] <;> simp

/-- A finite range of positive width quantises its values between the first level and the last. -/
theorem quantAt_real {a b x : ℝ} (h : a < b) (ha : a ≤ x) (hb : x ≤ b) : Between (quantAt (a : EReal) (b : EReal) (x : EReal)) := by
  have hd : 0 < b - a := by linarith
  refine ⟨15 * (x - a) * (b - a)⁻¹ + 1, ?_, ?_, ?_⟩
  · rw [quantAt, ← EReal.coe_sub, ← EReal.coe_sub, Ideal.div, if_neg, ← EReal.coe_inv, ← EReal.coe_mul, ← EReal.coe_mul,
      EReal.coe_add, EReal.coe_one]
    rw [← EReal.coe_zero, EReal.coe_eq_coe_iff]; exact hd.ne'
  · have : 0 ≤ 15 * (x - a) * (b - a)⁻¹ := by have := inv_pos.2 hd; have : 0 ≤ x - a := by linarith
                                              positivity
    linarith
  · rw [← div_eq_mul_inv]
    have : 15 * (x - a) / (b - a) ≤ 15 := by rw [div_le_iff₀ hd]; nlinarith
    linarith

/-- A finite range of width zero quantises its value to `⊥`. -/
theorem quantAt_single (a : ℝ) : quantAt (a : EReal) (a : EReal) (a : EReal) = ⊥ := by
  rw [quantAt, ← EReal.coe_sub, ← EReal.coe_mul, Ideal.div, sub_self]
  simp

/-- The quantised image is real between the first level and the last, or `⊥` throughout. -/
theorem quantised_quant (g : Place → EReal) : Quantised (quant g) := by
  by_cases hw : hi g - lo g = ⊤ ∨ hi g - lo g = ⊥
  · exact .inl fun p => by rw [quant, quantAt_wide _ hw]; exact between_one
  · have p₀ : Place := (0, 0)
    have hab := (lo_le g p₀).trans (le_hi g p₀)
    have ha : lo g ≠ ⊤ := fun h => hw (.inr (by rw [h, show hi g = ⊤ from top_le_iff.1 (h ▸ hab)]; rfl))
    have ha' : lo g ≠ ⊥ := fun h => hw (by
      rw [h]
      by_cases hb : hi g = ⊥
      · right; rw [hb]; rfl
      · left; exact EReal.sub_bot hb)
    have hb' : hi g ≠ ⊥ := fun h => ha' (le_bot_iff.1 (h ▸ hab))
    have hb : hi g ≠ ⊤ := fun h => hw (.inl (by rw [h]; exact EReal.top_sub ha))
    lift lo g to ℝ using ⟨ha, ha'⟩ with a ea
    lift hi g to ℝ using ⟨hb, hb'⟩ with b eb
    have hreal : ∀ p, ∃ x : ℝ, g p = (x : EReal) ∧ a ≤ x ∧ x ≤ b := fun p => by
      have h1 := lo_le g p
      have h2 := le_hi g p
      rw [← ea] at h1
      rw [← eb] at h2
      have n1 : g p ≠ ⊤ := fun h => EReal.coe_ne_top b (top_le_iff.1 (h ▸ h2))
      have n2 : g p ≠ ⊥ := fun h => EReal.coe_ne_bot a (le_bot_iff.1 (h ▸ h1))
      lift g p to ℝ using ⟨n1, n2⟩ with x
      exact ⟨x, rfl, EReal.coe_le_coe_iff.1 h1, EReal.coe_le_coe_iff.1 h2⟩
    rcases lt_or_eq_of_le (EReal.coe_le_coe_iff.1 hab) with h | h
    · refine .inl fun p => ?_
      obtain ⟨x, hx, h1, h2⟩ := hreal p
      rw [quant, ← ea, ← eb, hx]
      exact quantAt_real h h1 h2
    · refine .inr fun p => ?_
      obtain ⟨x, hx, h1, h2⟩ := hreal p
      rw [quant, ← ea, ← eb, hx, ← h, show x = a by linarith]
      exact quantAt_single a

/-- The place five lines before, around the end. -/
def back (i : Fin 1024) : Fin 1024 := if h : (i : ℕ) < 5 then ⟨1019 + i, by omega⟩ else ⟨i - 5, by omega⟩

/-- The place five lines after, around the end. -/
def ahead (i : Fin 1024) : Fin 1024 := if h : (i : ℕ) < 1019 then ⟨5 + i, by omega⟩ else ⟨i - 1019, by omega⟩

end Cert.Glcm

end
-- ==== Proof.Glcm.RefImages.lean ====
/-
  The reference's images: the quantised images, their one-hot levels, the neighbours' one-hot levels and the inside flags,
  each read at an index.
-/
module

public import proofs.«01_k».proof.Proof.Gen.ReferenceIdeal
public import proofs.«01_k».proof.Proof.Glcm.Quantise
public import proofs.«01_k».proof.Proof.Glcm.Words

@[expose] public section

noncomputable section

namespace Cert.Glcm

open Idealize.ShloMosaic Cert.ReferenceIdeal Cert.ReferenceIdeal.Gen

/-- The batch without its channel axis. -/
def refBatch (a : FVec Ideal S8x1x1024x1024 .f32) : FVec Ideal S8x1024x1024 .f32 :=
  shapeCast _ a shapeCasts_S8x1x1024x1024_S8x1024x1024

/-- Each image's least value, and its greatest. -/
def refLo (g : FVec Ideal S8x1024x1024 .f32) : FVec Ideal S8 .f32 :=
  Host.reduce FloatOps.minimumf g (constant S_ .f32 0x7F800000#32) reducesTo_S8x1024x1024_S8_d1_2 h_S_
def refHi (g : FVec Ideal S8x1024x1024 .f32) : FVec Ideal S8 .f32 :=
  Host.reduce FloatOps.maximumf g (constant S_ .f32 0xFF800000#32) reducesTo_S8x1024x1024_S8_d1_2 h_S_

/-- One value for each image, at every place. -/
def refSpread (s : FVec Ideal S8 .f32) : FVec Ideal S8x1024x1024 .f32 :=
  broadcastInDim S8x1024x1024 ![0, 1, 2] bcast_S8x1x1_S8x1024x1024_0_1_2 (broadcastInDim S8x1x1 ![0] bcast_S8_S8x1x1_0 s)

/-- The quantised images, from each image's least and greatest value. -/
def refQuantAt (g : FVec Ideal S8x1024x1024 .f32) (a b : FVec Ideal S8 .f32) : FVec Ideal S8x1024x1024 .f32 :=
  addf
    (Host.divf
      (mulf (broadcastInDim S8x1024x1024 ![] bcast_S_S8x1024x1024 (constant S_ .f32 0x41700000#32)) (subf g (refSpread a)))
      (refSpread (subf b a)))
    (broadcastInDim S8x1024x1024 ![] bcast_S_S8x1024x1024 (constant S_ .f32 0x3F800000#32))

/-- The quantised images. -/
def refQuant (a : FVec Ideal S8x1x1024x1024 .f32) : FVec Ideal S8x1024x1024 .f32 :=
  refQuantAt (refBatch a) (refLo (refBatch a)) (refHi (refBatch a))

/-- The levels. -/
def refLevels : FVec Ideal S16 .f32 :=
  addf (broadcastInDim S16 ![] bcast_S_S16 (constant S_ .f32 0x3F800000#32)) (sitofp .f32 (iotaInDim S16 32 0))

/-- The one-hot levels of the images. -/
def refHot (q : FVec Ideal S8x1024x1024 .f32) : FVec Ideal S8x1024x1024x16 .f32 :=
  uitofp .f32 (cmpf .oeq
    (broadcastInDim S8x1024x1024x16 ![0, 1, 2, 3] bcast_S8x1024x1024x1_S8x1024x1024x16_0_1_2_3
      (broadcastInDim S8x1024x1024x1 ![0, 1, 2] bcast_S8x1024x1024_S8x1024x1024x1_0_1_2 q))
    (broadcastInDim S8x1024x1024x16 ![0, 1, 2, 3] bcast_S1x1x1x16_S8x1024x1024x16_0_1_2_3
      (broadcastInDim S1x1x1x16 ![1, 2, 3] bcast_S1x1x16_S1x1x1x16_1_2_3
        (broadcastInDim S1x1x16 ![2] bcast_S16_S1x1x16_2 refLevels))))

/-- The one-hot levels of the neighbours five columns to the right, five rows up, and five columns to the left. -/
def refRight (C : FVec Ideal S8x1024x1024x16 .f32) : FVec Ideal S8x1024x1024x16 .f32 :=
  concatenate S8x1024x1024x16 2
    [⟨S8x1024x1019x16, extractStridedSlice S8x1024x1019x16 ![0, 0, 5, 0] C slices_S8x1024x1024x16_S8x1024x1019x16_0_0_5_0⟩,
      ⟨S8x1024x5x16, extractStridedSlice S8x1024x5x16 ![0, 0, 0, 0] C slices_S8x1024x1024x16_S8x1024x5x16_0_0_0_0⟩]
    concatenates_S8x1024x1019x16_S8x1024x5x16_S8x1024x1024x16_d2
def refUp (C : FVec Ideal S8x1024x1024x16 .f32) : FVec Ideal S8x1024x1024x16 .f32 :=
  concatenate S8x1024x1024x16 1
    [⟨S8x5x1024x16, extractStridedSlice S8x5x1024x16 ![0, 1019, 0, 0] C slices_S8x1024x1024x16_S8x5x1024x16_0_1019_0_0⟩,
      ⟨S8x1019x1024x16, extractStridedSlice S8x1019x1024x16 ![0, 0, 0, 0] C slices_S8x1024x1024x16_S8x1019x1024x16_0_0_0_0⟩]
    concatenates_S8x5x1024x16_S8x1019x1024x16_S8x1024x1024x16_d1
def refLeft (C : FVec Ideal S8x1024x1024x16 .f32) : FVec Ideal S8x1024x1024x16 .f32 :=
  concatenate S8x1024x1024x16 2
    [⟨S8x1024x5x16, extractStridedSlice S8x1024x5x16 ![0, 0, 1019, 0] C slices_S8x1024x1024x16_S8x1024x5x16_0_0_1019_0⟩,
      ⟨S8x1024x1019x16, extractStridedSlice S8x1024x1019x16 ![0, 0, 0, 0] C slices_S8x1024x1024x16_S8x1024x1019x16_0_0_0_0⟩]
    concatenates_S8x1024x5x16_S8x1024x1019x16_S8x1024x1024x16_d2

/-- Where a line's places, moved by `d`, are inside. -/
def refLine (d : BitVec 32) : IVec S1024 1 :=
  andi
    (cmpi .sge (addi (iotaInDim S1024 32 0) (broadcastInDim S1024 ![] bcast_S_S1024 (constantI S_ 32 d)))
      (broadcastInDim S1024 ![] bcast_S_S1024 (constantI S_ 32 0#32)))
    (cmpi .slt (addi (iotaInDim S1024 32 0) (broadcastInDim S1024 ![] bcast_S_S1024 (constantI S_ 32 d)))
      (broadcastInDim S1024 ![] bcast_S_S1024 (constantI S_ 32 1024#32)))

/-- Where the rows of `r` and the columns of `c` are inside. -/
def refInside (r c : IVec S1024 1) : FVec Ideal S1024x1024 .f32 :=
  uitofp .f32 (andi
    (broadcastInDim S1024x1024 ![0, 1] bcast_S1024x1_S1024x1024_0_1 (broadcastInDim S1024x1 ![0] bcast_S1024_S1024x1_0 r))
    (broadcastInDim S1024x1024 ![0, 1] bcast_S1x1024_S1024x1024_0_1 (broadcastInDim S1x1024 ![1] bcast_S1024_S1x1024_1 c)))

theorem refBatch_apply (a : FVec Ideal S8x1x1024x1024 .f32) (n : Fin 8) (y x : Fin 1024) :
    refBatch a (ix3 n y x) = a (ix4 n 0 y x) := by
  pointwise [refBatch]

theorem refLo_apply (g : FVec Ideal S8x1024x1024 .f32) (n : Fin 8) :
    refLo g (ix1 n) = lo fun p => g (ix3 n p.1 p.2) := by
  pointwise [refLo]
  rw [word_top]
  rfl

theorem refHi_apply (g : FVec Ideal S8x1024x1024 .f32) (n : Fin 8) :
    refHi g (ix1 n) = hi fun p => g (ix3 n p.1 p.2) := by
  pointwise [refHi]
  rw [word_bot]
  rfl

theorem refQuantAt_apply (g : FVec Ideal S8x1024x1024 .f32) (a b : FVec Ideal S8 .f32) (n : Fin 8) (y x : Fin 1024) :
    refQuantAt g a b (ix3 n y x) = quantAt (a (ix1 n)) (b (ix1 n)) (g (ix3 n y x)) := by
  pointwise [refQuantAt, refSpread]
  rw [word_fifteen]
  rfl

/-- A level number, as a word. -/
theorem word_level : ∀ l : Fin 16, (BitVec.ofNat 32 (l : ℕ)).toInt = ((l : ℕ) : ℤ) := by decide

theorem refLevels_apply (l : Fin 16) : refLevels (ix1 l) = (level l : EReal) := by
  pointwise [refLevels]
  have h : FloatOps.sitofp (F := Ideal) .f32 (BitVec.ofNat 32 (l : ℕ)) = (((l : ℕ) : ℝ) : EReal) := by
    show (((BitVec.ofNat 32 (l : ℕ)).toInt : ℝ) : EReal) = _
    rw [word_level]; push_cast; rfl
  rw [h, level, add_comm, EReal.coe_add, EReal.coe_one]

theorem refHot_apply (q : FVec Ideal S8x1024x1024 .f32) (n : Fin 8) (y x : Fin 1024) (l : Fin 16) :
    refHot q (ix4 n y x l) = (ind (q (ix3 n y x)) l : EReal) := by
  unfold refHot
  rw [ind, ← refLevels_apply]
  generalize refLevels = v
  pointwise
  rw [uitofp_flag]
  simp only [decide_eq_true_eq]
  split <;> simp

theorem refRight_apply (C : FVec Ideal S8x1024x1024x16 .f32) (n : Fin 8) (y x : Fin 1024) (l : Fin 16) :
    refRight C (ix4 n y x l) = C (ix4 n y (ahead x) l) := by
  pointwise [refRight]
  unfold ahead
  split <;> rfl

theorem refUp_apply (C : FVec Ideal S8x1024x1024x16 .f32) (n : Fin 8) (y x : Fin 1024) (l : Fin 16) :
    refUp C (ix4 n y x l) = C (ix4 n (back y) x l) := by
  pointwise [refUp]
  unfold back
  split <;> rfl

theorem refLeft_apply (C : FVec Ideal S8x1024x1024x16 .f32) (n : Fin 8) (y x : Fin 1024) (l : Fin 16) :
    refLeft C (ix4 n y x l) = C (ix4 n y (back x) l) := by
  pointwise [refLeft]
  unfold back
  split <;> rfl

/-- A line's flags, place by place. -/
theorem line_zero : ∀ i : Fin 1024, IntOp.andi (IntOp.cmpi .sge (IntOp.addi (BitVec.ofNat 32 i) 0#32) 0#32)
    (IntOp.cmpi .slt (IntOp.addi (BitVec.ofNat 32 i) 0#32) 1024#32) = BitVec.ofBool true := by decide +kernel

theorem line_plus : ∀ i : Fin 1024, IntOp.andi (IntOp.cmpi .sge (IntOp.addi (BitVec.ofNat 32 i) 5#32) 0#32)
    (IntOp.cmpi .slt (IntOp.addi (BitVec.ofNat 32 i) 5#32) 1024#32) = BitVec.ofBool (decide ((i : ℕ) < 1019)) := by decide +kernel

theorem line_minus : ∀ i : Fin 1024, IntOp.andi (IntOp.cmpi .sge (IntOp.addi (BitVec.ofNat 32 i) 4294967291#32) 0#32)
    (IntOp.cmpi .slt (IntOp.addi (BitVec.ofNat 32 i) 4294967291#32) 1024#32) = BitVec.ofBool (decide (5 ≤ (i : ℕ))) := by
  decide +kernel

theorem refLine_apply (d : BitVec 32) (i : Fin 1024) :
    refLine d (ix1 i) = IntOp.andi (IntOp.cmpi .sge (IntOp.addi (BitVec.ofNat 32 i) d) 0#32)
      (IntOp.cmpi .slt (IntOp.addi (BitVec.ofNat 32 i) d) 1024#32) := by
  pointwise [refLine]

theorem refInside_apply (r c : IVec S1024 1) (y x : Fin 1024) (a b : Bool) (hr : r (ix1 y) = BitVec.ofBool a)
    (hc : c (ix1 x) = BitVec.ofBool b) : refInside r c (ix2 y x) = if a && b then 1 else 0 := by
  pointwise [refInside]
  rw [hr, hc, show IntOp.andi (BitVec.ofBool a) (BitVec.ofBool b) = BitVec.ofBool (a && b) by cases a <;> cases b <;> rfl]
  exact uitofp_flag _

end Cert.Glcm

end
-- ==== Proof.Glcm.Score.lean ====
/-
  The reference's contrast of one neighbour offset, as a function of the one-hot levels `C`, the neighbours' one-hot
  levels `D` and the inside flags `v`; each stage read at an index.
-/
module

public import proofs.«01_k».proof.Proof.Gen.ReferenceIdeal
public import proofs.«01_k».proof.Proof.Glcm.Words

@[expose] public section

noncomputable section

namespace Cert.Glcm

open Idealize.ShloMosaic Cert.ReferenceIdeal Cert.ReferenceIdeal.Gen

/-- The pair counts. -/
def refPairs (C D : FVec Ideal S8x1024x1024x16 .f32) (v : FVec Ideal S1024x1024 .f32) : FVec Ideal S8x16x16 .f32 :=
  Host.dotGeneral dot_S8x1024x1024x16_S8x1024x1024x16_S8x16x16_21_21_3_3_0_0 none
    (mulf C (broadcastInDim S8x1024x1024x16 ![0, 1, 2, 3] bcast_S1x1024x1024x1_S8x1024x1024x16_0_1_2_3
      (broadcastInDim S1x1024x1024x1 ![1, 2, 3] bcast_S1024x1024x1_S1x1024x1024x1_1_2_3
        (broadcastInDim S1024x1024x1 ![0, 1] bcast_S1024x1024_S1024x1024x1_0_1 v)))) D

/-- The padding flags. -/
def refOutside (v : FVec Ideal S1024x1024 .f32) : FVec Ideal S1024x1024 .f32 :=
  subf (broadcastInDim S1024x1024 ![] bcast_S_S1024x1024 (constant S_ .f32 0x3F800000#32)) v

/-- The pad counts. -/
def refPads (C : FVec Ideal S8x1024x1024x16 .f32) (u : FVec Ideal S1024x1024 .f32) : FVec Ideal S8x16 .f32 :=
  Host.dotGeneral dot_S1024x1024_S8x1024x1024x16_S8x16_10_21_n_03_n_n none u C

/-- The number of padding flags. -/
def refPadTotal (u : FVec Ideal S1024x1024 .f32) : FVec Ideal S_ .f32 :=
  Host.reduceAdd u (constant S_ .f32 0x00000000#32) reducesTo_S1024x1024_S_d0_1 h_S_

/-- The level numbers down the rows, and along the columns. -/
def refRow : IVec S16x16 32 :=
  broadcastInDim S16x16 ![0, 1] bcast_S16x1_S16x16_0_1 (broadcastInDim S16x1 ![0] bcast_S16_S16x1_0 (iotaInDim S16 32 0))
def refCol : IVec S16x16 32 :=
  broadcastInDim S16x16 ![0, 1] bcast_S1x16_S16x16_0_1 (broadcastInDim S1x16 ![1] bcast_S16_S1x16_1 (iotaInDim S16 32 0))

/-- The anti-diagonal. -/
def refAnti : FVec Ideal S16x16 .f32 :=
  uitofp .f32 (cmpi .eq (addi refRow refCol) (broadcastInDim S16x16 ![] bcast_S_S16x16 (constantI S_ 32 18#32)))

/-- The diagonal. -/
def refDiag : FVec Ideal S16x16 .f32 :=
  uitofp .f32 (cmpi .eq (addi (iotaInDim S16x16 32 0) (broadcastInDim S16x16 ![] bcast_S_S16x16 (constantI S_ 32 0#32)))
    (iotaInDim S16x16 32 1))

/-- The squared distances of the levels. -/
def refSqDist : FVec Ideal S16x16 .f32 :=
  mulf (sitofp .f32 (subi refRow refCol)) (sitofp .f32 (subi refRow refCol))

/-- A table of every pair of levels, the same for each image. -/
def refEach (f : FVec Ideal S16x16 .f32) : FVec Ideal S8x16x16 .f32 :=
  broadcastInDim S8x16x16 ![0, 1, 2] bcast_S1x16x16_S8x16x16_0_1_2 (broadcastInDim S1x16x16 ![1, 2] bcast_S16x16_S1x16x16_1_2 f)

/-- The table. -/
def refTable (N : FVec Ideal S8x16x16 .f32) (P : FVec Ideal S8x16 .f32) (T : FVec Ideal S_ .f32) : FVec Ideal S8x16x16 .f32 :=
  addf (addf N (transpose S8x16x16 [0, 2, 1] N transposes_S8x16x16_S8x16x16_0_2_1))
    (mulf (refEach refAnti)
      (addf
        (subf
          (broadcastInDim S8x16x16 ![0, 1, 2] bcast_S8x16x1_S8x16x16_0_1_2
            (subf (broadcastInDim S8x16x1 ![] bcast_S_S8x16x1 T) (broadcastInDim S8x16x1 ![0, 1] bcast_S8x16_S8x16x1_0_1 P)))
          (broadcastInDim S8x16x16 ![0, 1, 2] bcast_S8x1x16_S8x16x16_0_1_2
            (broadcastInDim S8x1x16 ![0, 2] bcast_S8x16_S8x1x16_0_2 P)))
        (refEach (mulf (broadcastInDim S16x16 ![] bcast_S_S16x16 T) refDiag))))

/-- The total of a table. -/
def refTotal (G : FVec Ideal S8x16x16 .f32) : FVec Ideal S8 .f32 :=
  Host.reduceAdd G (constant S_ .f32 0x00000000#32) reducesTo_S8x16x16_S8_d1_2 h_S_

/-- The contrast of a table. -/
def refContrast (G : FVec Ideal S8x16x16 .f32) : FVec Ideal S8 .f32 :=
  refTotal (mulf (refEach refSqDist)
    (Host.divf G (broadcastInDim S8x16x16 ![0, 1, 2] bcast_S8x1x1_S8x16x16_0_1_2
      (broadcastInDim S8x1x1 ![0] bcast_S8_S8x1x1_0 (refTotal G)))))

/-- The contrast of one neighbour offset. -/
def refScore (C D : FVec Ideal S8x1024x1024x16 .f32) (v : FVec Ideal S1024x1024 .f32) : FVec Ideal S8 .f32 :=
  refContrast (refTable (refPairs C D v) (refPads C (refOutside v)) (refPadTotal (refOutside v)))

theorem refPairs_apply (C D : FVec Ideal S8x1024x1024x16 .f32) (v : FVec Ideal S1024x1024 .f32) (n : Fin 8) (a b : Fin 16) :
    refPairs C D v (ix3 n a b) = ∑ x, ∑ y, C (ix4 n y x a) * v (ix2 y x) * D (ix4 n y x b) := by
  pointwise [refPairs]

theorem refOutside_apply (v : FVec Ideal S1024x1024 .f32) (y x : Fin 1024) :
    refOutside v (ix2 y x) = 1 - v (ix2 y x) := by
  pointwise [refOutside]

theorem refPads_apply (C : FVec Ideal S8x1024x1024x16 .f32) (u : FVec Ideal S1024x1024 .f32) (n : Fin 8) (l : Fin 16) :
    refPads C u (ix2 n l) = ∑ x, ∑ y, u (ix2 y x) * C (ix4 n y x l) := by
  pointwise [refPads]

theorem refPadTotal_apply (u : FVec Ideal S1024x1024 .f32) (i : S_.Idx) :
    refPadTotal u i = ∑ y, ∑ x, u (ix2 y x) := by
  pointwise [refPadTotal]

theorem refTotal_apply (G : FVec Ideal S8x16x16 .f32) (n : Fin 8) :
    refTotal G (ix1 n) = ∑ a, ∑ b, G (ix3 n a b) := by
  pointwise [refTotal]

/-- A comparison of two words, as a number. -/
theorem word_eq (a b : BitVec 32) :
    FloatOps.uitofp (F := Ideal) .f32 (IntOp.cmpi .eq a b) = if a = b then 1 else 0 := by
  have h : IntOp.cmpi .eq a b = BitVec.ofBool (a == b) := rfl
  rw [h, uitofp_flag]
  simp

/-- The sum of two level numbers, as a word. -/
theorem word_sum_eq : ∀ a b : Fin 16, IntOp.addi (BitVec.ofNat 32 a) (BitVec.ofNat 32 b) = 18#32 ↔ (a : ℕ) + (b : ℕ) = 18 := by
  decide

/-- Two level numbers compared, as words. -/
theorem word_level_eq : ∀ a b : Fin 16, IntOp.addi (BitVec.ofNat 32 a) 0#32 = BitVec.ofNat 32 b ↔ a = b := by
  decide

/-- The difference of two level numbers, as a word. -/
theorem word_sub : ∀ a b : Fin 16, (IntOp.subi (BitVec.ofNat 32 a) (BitVec.ofNat 32 b)).toInt = ((a : ℕ) : ℤ) - ((b : ℕ) : ℤ) := by
  decide

theorem refAnti_apply (a b : Fin 16) : refAnti (ix2 a b) = if (a : ℕ) + (b : ℕ) = 18 then 1 else 0 := by
  pointwise [refAnti, refRow, refCol]
  rw [word_eq]
  simp only [word_sum_eq]

theorem refDiag_apply (a b : Fin 16) : refDiag (ix2 a b) = if a = b then 1 else 0 := by
  pointwise [refDiag]
  rw [word_eq]
  simp only [word_level_eq]

theorem refSqDist_apply (a b : Fin 16) :
    refSqDist (ix2 a b) = (((((a : ℝ) - (b : ℝ)) * ((a : ℝ) - (b : ℝ)) : ℝ)) : EReal) := by
  pointwise [refSqDist, refRow, refCol]
  have h : FloatOps.sitofp (F := Ideal) .f32 (IntOp.subi (BitVec.ofNat 32 a) (BitVec.ofNat 32 b))
      = (((a : ℝ) - (b : ℝ) : ℝ) : EReal) := by
    show (((IntOp.subi (BitVec.ofNat 32 a) (BitVec.ofNat 32 b)).toInt : ℝ) : EReal) = _
    rw [word_sub]; push_cast; rfl
  rw [h, EReal.coe_mul]

theorem refEach_apply (f : FVec Ideal S16x16 .f32) (n : Fin 8) (a b : Fin 16) : refEach f (ix3 n a b) = f (ix2 a b) := by
  pointwise [refEach]

theorem refTable_apply (N : FVec Ideal S8x16x16 .f32) (P : FVec Ideal S8x16 .f32) (T : FVec Ideal S_ .f32) (n : Fin 8) (a b : Fin 16) :
    refTable N P T (ix3 n a b) = (N (ix3 n a b) + N (ix3 n b a))
      + refAnti (ix2 a b) * ((T ix0 - P (ix2 n a) - P (ix2 n b)) + T ix0 * refDiag (ix2 a b)) := by
  unfold refTable
  generalize refAnti = A
  generalize refDiag = E
  pointwise [refEach]

theorem refContrast_apply (G : FVec Ideal S8x16x16 .f32) (n : Fin 8) :
    refContrast G (ix1 n) = ∑ a, ∑ b, refSqDist (ix2 a b) * Ideal.div (G (ix3 n a b)) (refTotal G (ix1 n)) := by
  unfold refContrast
  rw [refTotal_apply]
  generalize refSqDist = A
  generalize refTotal G = S
  pointwise [refEach]

end Cert.Glcm

end
-- ==== Proof.Glcm.Equation.lean ====
/-
  The equation: the reference's contrast of one neighbour offset is the table's weighted total over its total.
-/
module

public import proofs.«01_k».proof.Proof.Glcm.Score
public import proofs.«01_k».proof.Proof.Glcm.Counts
public import proofs.«01_k».proof.Proof.Glcm.Insides

@[expose] public section

noncomputable section

namespace Cert.Glcm

open Idealize.ShloMosaic Cert.ReferenceIdeal Cert.ReferenceIdeal.Gen

/-- A sum over the places, column by column. -/
theorem sum_places (f : Place → ℝ) : ∑ x : Fin 1024, ∑ y : Fin 1024, (f (y, x) : EReal) = ((∑ p, f p : ℝ) : EReal) := by
  simp only [← coe_sum]
  rw [Fintype.sum_prod_type, Finset.sum_comm]

/-- A real divided by a real other than zero. -/
theorem div_real {a b : ℝ} (hb : b ≠ 0) : Ideal.div (a : EReal) (b : EReal) = ((a * b⁻¹ : ℝ) : EReal) := by
  rw [Ideal.div, if_neg, ← EReal.coe_inv, ← EReal.coe_mul]
  rw [← EReal.coe_zero, EReal.coe_eq_coe_iff]; exact hb

/-- Image `n`'s contrast, from its one-hot levels, its neighbours' and the inside flags. -/
theorem refScore_eq {C D : FVec Ideal S8x1024x1024x16 .f32} {v : FVec Ideal S1024x1024 .f32} {n : Fin 8}
    {c d : Fin 16 → Place → ℝ} {w : Place → ℝ} (hC : ∀ p l, C (ix4 n p.1 p.2 l) = (c l p : EReal))
    (hD : ∀ p l, D (ix4 n p.1 p.2 l) = (d l p : EReal)) (hv : ∀ p, v (ix2 p.1 p.2) = (w p : EReal))
    (hpos : 0 < denom c d w) : refScore C D v (ix1 n) = Ideal.div (numer c d w : EReal) (denom c d w : EReal) := by
  have hu : ∀ p : Place, refOutside v (ix2 p.1 p.2) = ((1 - w p : ℝ) : EReal) := fun p => by
    rw [refOutside_apply, hv, EReal.coe_sub, EReal.coe_one]
  have hN : ∀ a b, refPairs C D v (ix3 n a b) = (pairCount c d w a b : EReal) := fun a b => by
    rw [refPairs_apply, pairCount, ← sum_places]
    refine Finset.sum_congr rfl fun x _ => Finset.sum_congr rfl fun y _ => ?_
    rw [hC (y, x), hD (y, x), hv (y, x), EReal.coe_mul, EReal.coe_mul]
  have hP : ∀ l, refPads C (refOutside v) (ix2 n l) = (padCount c w l : EReal) := fun l => by
    rw [refPads_apply, padCount, ← sum_places]
    refine Finset.sum_congr rfl fun x _ => Finset.sum_congr rfl fun y _ => ?_
    rw [hC (y, x), hu (y, x), EReal.coe_mul]
  have hT : ∀ i, refPadTotal (refOutside v) i = (padTotal w : EReal) := fun i => by
    rw [refPadTotal_apply, padTotal, ← sum_places, Finset.sum_comm]
    exact Finset.sum_congr rfl fun x _ => Finset.sum_congr rfl fun y _ => hu (y, x)
  have hG : ∀ a b, refTable (refPairs C D v) (refPads C (refOutside v)) (refPadTotal (refOutside v)) (ix3 n a b)
      = (table c d w a b : EReal) := fun a b => by
    have hA : refAnti (ix2 a b) = (antiDiag a b : EReal) := by
      rw [refAnti_apply, antiDiag]; split <;> simp
    have hE : refDiag (ix2 a b) = (diag a b : EReal) := by
      rw [refDiag_apply, diag]; split <;> simp
    rw [refTable_apply, hN, hN, hP, hP, hT, hA, hE]
    simp only [← EReal.coe_sub, ← EReal.coe_mul, ← EReal.coe_add]
    rfl
  rw [refScore, refContrast_apply, refTotal_apply]
  simp only [hG, ← coe_sum, sum_table, div_real hpos.ne', refSqDist_apply, ← EReal.coe_mul]
  rw [← sum_sqDist_table, Finset.sum_mul]
  refine EReal.coe_eq_coe_iff.2 (Finset.sum_congr rfl fun a _ => ?_)
  rw [Finset.sum_mul]
  exact Finset.sum_congr rfl fun b _ => (mul_assoc _ _ _).symm

end Cert.Glcm

end
-- ==== Proof.Glcm.Images.lean ====
/-
  The kernel's images: the quantised image, its rounding, its mask, the masked levels and their shifts.
-/
module

public import proofs.«01_k».proof.Proof.Glcm.Quantise

@[expose] public section

noncomputable section

namespace Cert.Glcm

open Idealize.ShloMosaic Cert.KernelIdeal Cert.KernelIdeal.Gen Cert.KernelIdeal.Facts

variable [Cert.KernelIdeal.Facts]

/-- A one-image block's values by place. -/
def blockImage (v : Vec Ideal S1x1x1024x1024 .f32) (p : Place) : EReal := v (ix4 0 0 p.1 p.2)

/-- An image rounded reads the pixel rounded. -/
theorem image_rnd (a : FVec Ideal S1024x1024 .f32) (i : S1024x1024.Idx) : (roundeven a : FVec Ideal S1024x1024 .f32) i = rnd (a i) :=
  rfl

/-- An image compared with another reads the comparison of the pixels. -/
theorem image_msk (a b : FVec Ideal S1024x1024 .f32) (h : 1 < 32) (i : S1024x1024.Idx) :
    (sitofp .f32 (extui 32 (cmpf .oeq a b) h) : FVec Ideal S1024x1024 .f32) i = if a i = b i then (1 : EReal) else 0 :=
  (show _ = FloatOps.sitofp (F := Ideal) .f32 (BitVec.setWidth 32 (BitVec.ofBool (decide (a i = b i)))) from rfl).trans
    (sitofp_flag _)

/-- A product of images reads the product of the pixels. -/
theorem image_mul (a b : FVec Ideal S1024x1024 .f32) (i : S1024x1024.Idx) : (mulf a b : FVec Ideal S1024x1024 .f32) i = a i * b i :=
  rfl

/-- The first image is the quantised one. -/
theorem pay2_apply (v : Vec Ideal S1x1x1024x1024 .f32) (p : Place) :
    k0_pay2 v (ix2 p.1 p.2) = quant (blockImage v) p := by
  pointwise [k0_pay2]
  simp only [word_top, word_bot, word_fifteen]
  rfl

/-- Its rounding. -/
theorem pay3_apply (v : Vec Ideal S1x1x1024x1024 .f32) (p : Place) :
    k0_pay3 v (ix2 p.1 p.2) = rnd (quant (blockImage v) p) := by
  rw [← pay2_apply, k0_pay3, image_rnd]

/-- Its mask. -/
theorem pay4_apply (v : Vec Ideal S1x1x1024x1024 .f32) (p : Place) :
    k0_pay4 v (ix2 p.1 p.2) = msk (quant (blockImage v) p) := by
  rw [k0_pay4, image_msk, pay2_apply, pay3_apply]; rfl

/-- Its masked levels. -/
theorem pay5_apply (v : Vec Ideal S1x1x1024x1024 .f32) (p : Place) :
    k0_pay5 v (ix2 p.1 p.2) = lev (quant (blockImage v) p) := by
  rw [k0_pay5, image_mul, pay3_apply, pay4_apply]; rfl

/-- An image shifted down by five rows. -/
theorem shift_down (e : FVec Ideal S1024x1024 .f32) (y x : Fin 1024) :
    (concatenate S1024x1024 0 [⟨S5x1024, extractStridedSlice S5x1024 ![1019, 0] e slices_S1024x1024_o1019_0_S5x1024⟩,
      ⟨S1019x1024, extractStridedSlice S1019x1024 ![0, 0] e slices_S1024x1024_o0_0_S1019x1024⟩]
      concatenates_S5x1024_S1019x1024_S1024x1024_d0 : FVec Ideal S1024x1024 .f32) (ix2 y x) = e (ix2 (back y) x) := by
  pointwise
  unfold back
  split <;> rfl

/-- An image shifted left by five columns. -/
theorem shift_left (e : FVec Ideal S1024x1024 .f32) (y x : Fin 1024) :
    (concatenate S1024x1024 1 [⟨S1024x1019, extractStridedSlice S1024x1019 ![0, 5] e slices_S1024x1024_o0_5_S1024x1019⟩,
      ⟨S1024x5, extractStridedSlice S1024x5 ![0, 0] e slices_S1024x1024_o0_0_S1024x5⟩]
      concatenates_S1024x1019_S1024x5_S1024x1024_d1 : FVec Ideal S1024x1024 .f32) (ix2 y x) = e (ix2 y (ahead x)) := by
  pointwise
  unfold ahead
  split <;> rfl

/-- An image shifted right by five columns. -/
theorem shift_right (e : FVec Ideal S1024x1024 .f32) (y x : Fin 1024) :
    (concatenate S1024x1024 1 [⟨S1024x5, extractStridedSlice S1024x5 ![0, 1019] e slices_S1024x1024_o0_1019_S1024x5⟩,
      ⟨S1024x1019, extractStridedSlice S1024x1019 ![0, 0] e slices_S1024x1024_o0_0_S1024x1019⟩]
      concatenates_S1024x5_S1024x1019_S1024x1024_d1 : FVec Ideal S1024x1024 .f32) (ix2 y x) = e (ix2 y (back x)) := by
  pointwise
  unfold back
  split <;> rfl

/-- The masked levels of the neighbour five rows up. -/
theorem pay6_apply (v : Vec Ideal S1x1x1024x1024 .f32) (p : Place) :
    k0_pay6 v (ix2 p.1 p.2) = lev (quant (blockImage v) (back p.1, p.2)) := by
  rw [k0_pay6]
  exact (shift_down _ _ _).trans (pay5_apply v (back p.1, p.2))

/-- The masked levels of the neighbour five columns to the right. -/
theorem pay7_apply (v : Vec Ideal S1x1x1024x1024 .f32) (p : Place) :
    k0_pay7 v (ix2 p.1 p.2) = lev (quant (blockImage v) (p.1, ahead p.2)) := by
  rw [k0_pay7]
  exact (shift_left _ _ _).trans (pay5_apply v (p.1, ahead p.2))

/-- The masked levels of the neighbour five rows up and five columns to the right. -/
theorem pay8_apply (v : Vec Ideal S1x1x1024x1024 .f32) (p : Place) :
    k0_pay8 v (ix2 p.1 p.2) = lev (quant (blockImage v) (back p.1, ahead p.2)) := by
  rw [k0_pay8]
  exact (shift_left _ _ _).trans (pay6_apply v (p.1, ahead p.2))

/-- The masked levels of the neighbour five rows up and five columns to the left. -/
theorem pay9_apply (v : Vec Ideal S1x1x1024x1024 .f32) (p : Place) :
    k0_pay9 v (ix2 p.1 p.2) = lev (quant (blockImage v) (back p.1, back p.2)) := by
  rw [k0_pay9]
  exact (shift_right _ _ _).trans (pay6_apply v (p.1, back p.2))

/-- The first offset's pair weights, of any two images. -/
theorem pair_image (m n : FVec Ideal S1024x1024 .f32) (y x : Fin 1024) :
    (select (cmpf .ogt n (broadcast S1024x1024 (Scalar.ofBits .f32 0x00000000#32))) m
      (broadcast S1024x1024 (Scalar.ofBits .f32 0x00000000#32)) : FVec Ideal S1024x1024 .f32) (ix2 y x)
      = pairW (m (ix2 y x)) (n (ix2 y x)) := by
  pointwise
  rfl

theorem pay10_apply (v : Vec Ideal S1x1x1024x1024 .f32) (y x : Fin 1024) :
    k0_pay10 v (ix2 y x) = pairW (k0_pay4 v (ix2 y x)) (k0_pay7 v (ix2 y x)) := by
  rw [k0_pay10]; exact pair_image _ _ _ _

/-- The first offset's weighted lane, of any three images. -/
theorem sq_image (r w n : FVec Ideal S1024x1024 .f32) (y x : Fin 1024) :
    (mulf (mulf w (subf r n)) (subf r n) : FVec Ideal S1024x1024 .f32) (ix2 y x)
      = w (ix2 y x) * (r (ix2 y x) - n (ix2 y x)) * (r (ix2 y x) - n (ix2 y x)) := rfl

theorem pay11_apply (v : Vec Ideal S1x1x1024x1024 .f32) (y x : Fin 1024) :
    k0_pay11 v (ix2 y x) = pairSq (k0_pay3 v (ix2 y x)) (k0_pay4 v (ix2 y x)) (k0_pay7 v (ix2 y x)) := by
  rw [k0_pay11]
  exact (sq_image _ _ _ _ _).trans (by rw [pay10_apply]; rfl)

theorem pay12_eq (v : Vec Ideal S1x1x1024x1024 .f32) : k0_pay12 v = whole (lane (k0_pay11 v)) := by
  unfold k0_pay12
  generalize k0_pay11 v = t
  pointwise
  rfl

theorem pay13_apply (v : Vec Ideal S1x1x1024x1024 .f32) (y : Fin 1024) (x : Fin 5) :
    k0_pay13 v (ix2 y x) = k0_pay11 v (ix2 y ⟨1019 + x, by omega⟩) := by
  unfold k0_pay13
  generalize k0_pay11 v = t
  pointwise

end Cert.Glcm

end
-- ==== Proof.Glcm.Block.lean ====
/-
  What one grid point stores: the four contrasts of its image.
-/
module

public import proofs.«01_k».proof.Proof.Gen.KernelIdeal.Frame
public import proofs.«01_k».proof.Proof.Glcm.Rims
public import proofs.«01_k».proof.Proof.Glcm.Images

@[expose] public section

noncomputable section

namespace Cert.Glcm

open Idealize.ShloMosaic Cert.KernelIdeal Cert.KernelIdeal.Gen

/-- The contrast of an image for one neighbour offset: the table's weighted total over its total. -/
def contrast (q : Place → EReal) (nb : Place → Place) (v : Place → ℝ) : EReal :=
  Ideal.div (numer (hot q) (fun l p => hot q l (nb p)) v : EReal) (denom (hot q) (fun l p => hot q l (nb p)) v : EReal)

/-- The four contrasts of a raw image, in the offsets' order. -/
def answer (g : Place → EReal) : Fin 4 → EReal :=
  ![contrast (quant g) (fun p => (p.1, ahead p.2)) inRight,
    contrast (quant g) (fun p => (back p.1, ahead p.2)) inTopRight,
    contrast (quant g) (fun p => (back p.1, p.2)) inTop,
    contrast (quant g) (fun p => (back p.1, back p.2)) inTopLeft]

variable [Cert.KernelIdeal.Facts]

theorem zeros_four : (![0, 0, 0, 0] : Fin 4 → Nat) = fun _ => 0 := funext fun a => by fin_cases a <;> rfl

theorem zeros_three : (![0, 0, 0] : Fin 3 → Nat) = fun _ => 0 := funext fun a => by fin_cases a <;> rfl

/-- A grid point stores the four contrasts of its block's image. -/
theorem out_apply (x0 : Vec Ideal S1x1x1024x1024 .f32) (o : Fin 4) :
    out0_1 x0 (ix3 0 0 o) = answer (blockImage x0) o := by
  have hq := quantised_quant (blockImage x0)
  have hr : ∀ p : Place, lane (k0_pay3 x0) p.1 p.2 = rnd (quant (blockImage x0) p) := pay3_apply x0
  have hm : ∀ p : Place, lane (k0_pay4 x0) p.1 p.2 = msk (quant (blockImage x0) p) := pay4_apply x0
  have h7 : ∀ p : Place, lane (k0_pay7 x0) p.1 p.2 = lev (quant (blockImage x0) (p.1, ahead p.2)) := pay7_apply x0
  have h8 : ∀ p : Place, lane (k0_pay8 x0) p.1 p.2 = lev (quant (blockImage x0) (back p.1, ahead p.2)) := pay8_apply x0
  have h6 : ∀ p : Place, lane (k0_pay6 x0) p.1 p.2 = lev (quant (blockImage x0) (back p.1, p.2)) := pay6_apply x0
  have h9 : ∀ p : Place, lane (k0_pay9 x0) p.1 p.2 = lev (quant (blockImage x0) (back p.1, back p.2)) := pay9_apply x0
  have e1 := (quot_right (k0_pay3 x0) (k0_pay4 x0) (k0_pay7 x0) (k0_pay10 x0) (k0_pay11 x0) _ _ (pay10_apply x0)
    (pay11_apply x0) (pay12_eq x0) (pay13_apply x0)).trans
    (quot_eq isRim_right padTotal_right hq (fun p => (p.1, ahead p.2)) _ _ _ hr hm h7)
  have e2 := (quot_topRight (k0_pay3 x0) (k0_pay4 x0) (k0_pay8 x0)).trans
    (quot_eq isRim_topRight padTotal_topRight hq (fun p => (back p.1, ahead p.2)) _ _ _ hr hm h8)
  have e3 := (quot_top (k0_pay3 x0) (k0_pay4 x0) (k0_pay6 x0)).trans
    (quot_eq isRim_top padTotal_top hq (fun p => (back p.1, p.2)) _ _ _ hr hm h6)
  have e4 := quot_eq isRim_topLeft padTotal_topLeft hq (fun p => (back p.1, back p.2)) _ _ _ hr hm h9
  unfold out0_1
  rw [View.canon_unit_zero zeros_three]
  unfold k0_pay59 k0_pay60 k0_pay54 k0_pay55 k0_pay56 k0_pay57 k0_pay58
  have hl : View.ld x0 r0_0 = x0 := View.ld_unit_zero zeros_four _ x0
  rw [hl]
  rw [quot_topLeft, e1, e2, e3, e4]
  rfl

end Cert.Glcm

end
-- ==== Proof.Glcm.Array.lean ====
/-
  What the kernel's result array holds: the four contrasts of each image of the argument array.
-/
module

public import proofs.«01_k».proof.Proof.Gen.KernelIdeal.Points
public import proofs.«01_k».proof.Proof.Glcm.Block

@[expose] public section

noncomputable section

namespace Cert.Glcm

open Idealize.ShloMosaic Idealize.ShloMosaic.TcCoe Idealize.SL.Sem Cert.KernelIdeal Cert.KernelIdeal.Gen

/-- Image `b` of a batch, by place. -/
def imageOf (a : Vec Ideal S8x1x1024x1024 .f32) (b : Fin 8) (p : Place) : EReal := a (ix4 b 0 p.1 p.2)

/-- The result array as one function of the argument array. -/
def rows (a : Vec Ideal S8x1x1024x1024 .f32) : Vec Ideal S8x1x4 .f32 := fun i => answer (imageOf a (i 0)) (i 2)

/-- The result as the program returns it. -/
def result (a : Vec Ideal S8x1x1024x1024 .f32) : Vec Ideal S8x1x1x4 .f32 := fun i => answer (imageOf a (i 0)) (i 3)

variable (m : (ℓ : Loc nD τ sig) → Buf (Elt Ideal) ℓ) (ρ : Dev nD → PrngReg)

/-- Grid point `t` reads image `t`, and writes row `t`. -/
theorem index_in : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem index_out : ∀ t : Fin cfg0.N, win0_1.index t (0 : Fin 3) = t.val ∧ win0_1.index t (1 : Fin 3) = 0
    ∧ win0_1.index t (2 : Fin 3) = 0 :=
  (by decide +kernel : ∀ t : Fin grid0.N, _)

theorem size_out : ∀ (t : Fin cfg0.N) (a : Fin 3), win0_1.xsize (grid0.coords t) a = S1x1x4.size a :=
  (by decide +kernel : ∀ (t : Fin grid0.N) (a : Fin 3), _)

/-- A grid point as a number of an image. -/
def imageNo (t : Fin cfg0.N) : Fin 8 := ⟨t.val, lt_of_lt_of_eq t.isLt N_0⟩

/-- A place of the block of grid point `t` is that place of image `t`. -/
theorem emb_in (t : Fin cfg0.N) (y x : Fin 1024) :
    ((cfg0.win 0).blk t).view.emb (ix4 0 0 y x : S1x1x1024x1024.Idx) = ix4 (imageNo t) 0 y x := by
  obtain ⟨e0, e1, e2, e3⟩ := index_in t
  funext a; apply Fin.ext
  match a with
  | ⟨0, _⟩ => show win0_0.index t (0 : Fin 4) * 1 + 1 * 0 = t.val; omega
  | ⟨1, _⟩ => show win0_0.index t (1 : Fin 4) * 1 + 1 * 0 = 0; omega
  | ⟨2, _⟩ => show win0_0.index t (2 : Fin 4) * 1024 + 1 * y.val = y.val; omega
  | ⟨3, _⟩ => show win0_0.index t (3 : Fin 4) * 1024 + 1 * x.val = x.val; omega

/-- A lane of the row of grid point `t`. -/
theorem emb_out (t : Fin cfg0.N) (o : Fin 4) :
    ((cfg0.win 1).blk t).view.emb (ix3 0 0 o : S1x1x4.Idx) = ix3 (imageNo t) 0 o := by
  obtain ⟨e0, e1, e2⟩ := index_out t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 4 + 1 * o.val = o.val; omega

/-- The block a grid point reads is its image. -/
theorem block_image (c : Dev nD) (t : Fin cfg0.N) :
    blockImage (iblk m c 0 t) = imageOf (m ((c : Thread nD τ).loc main_arg0)) (imageNo t) := by
  funext p
  show V m c main_arg0 (((cfg0.win 0).blk t).view.emb (ix4 0 0 p.1 p.2 : S1x1x1024x1024.Idx)) = _
  rw [emb_in, V_main_arg0]
  rfl

/-- An index of a row is its lane. -/
theorem row_index (j : S1x1x4.Idx) : ∃ o : Fin 4, j = ix3 0 0 o :=
  ⟨j 2, by
    funext a
    match a with
    | ⟨0, _⟩ => exact Fin.ext (by have := (j 0).isLt; change (j 0).val < 1 at this; show (j 0).val = 0; omega)
    | ⟨1, _⟩ => exact Fin.ext (by have := (j 1).isLt; change (j 1).val < 1 at this; show (j 1).val = 0; omega)
    | ⟨2, _⟩ => rfl⟩

/-- What a grid point writes back is its row of `rows`. -/
theorem flushed_row (c : Dev nD) (t : Fin cfg0.N) :
    (dats m 0 c).flushed 1 t
      = ((cfg0.win 1).blk t).view.read (Elt Ideal) (rows (m ((c : Thread nD τ).loc main_arg0))) := by
  show (cfg0.win 1).cut (grid0.coords t) ((dats m 0 c).after 1 t) = _
  rw [after0_1]
  funext j
  show out0_1 (iblk m c 0 t) j = rows (m ((c : Thread nD τ).loc main_arg0)) (((cfg0.win 1).blk t).view.emb j)
  obtain ⟨o, ho⟩ := row_index j
  subst ho
  rw [out_apply, emb_out, block_image]
  rfl

/-- Every index of the result array is in the row of its image. -/
theorem covered (i : S8x1x4.Idx) :
    ∃ t : Fin cfg0.N, (cfg0.win 1).flush t = true ∧ i ∈ ((cfg0.win 1).blk t).view.set := by
  refine ⟨(⟨(i 0).val, lt_of_lt_of_eq (i 0).isLt N_0.symm⟩ : Fin cfg0.N), flush0_1 _, ?_⟩
  have h := ((cfg0.win 1).blk (⟨(i 0).val, lt_of_lt_of_eq (i 0).isLt N_0.symm⟩ : Fin cfg0.N)).view.emb_mem_set
    (ix3 0 0 (i 2) : S1x1x4.Idx)
  have h := (emb_out (⟨(i 0).val, lt_of_lt_of_eq (i 0).isLt N_0.symm⟩ : Fin cfg0.N) (i 2)) ▸ h
  have e : i = ix3 (imageNo (⟨(i 0).val, lt_of_lt_of_eq (i 0).isLt N_0.symm⟩ : Fin cfg0.N)) 0 (i 2) := by
    funext a
    match a with
    | ⟨0, _⟩ => rfl
    | ⟨1, _⟩ => exact Fin.ext (by have := (i 1).isLt; change (i 1).val < 1 at this; show (i 1).val = 0; omega)
    | ⟨2, _⟩ => rfl
  rw [e]; exact h

/-- The result array after the run. -/
theorem final_rows (c : Dev nD) :
    (dats m 0 c).arrAt 1 cfg0.N = rows (m ((c : Thread nD τ).loc main_arg0)) :=
  (dats m 0 c).arrAt_eq_of_cover 1 _ (fun t _ => flushed_row m c t) covered

/-- The rows at the shape the program returns. -/
theorem reshape_rows (a : Vec Ideal S8x1x1024x1024 .f32) :
    shapeCast S8x1x1x4 (rows a) Cert.KernelIdeal.Gen.facts.toFacts₀.shapeCasts_S8x1x4_S8x1x1x4 = result a := by
  funext i
  refine (shapeCast_apply (rows a) _ i (ix3 (i 0) 0 (i 3)) ?_).trans rfl
  rw [Shape.rowMajor_val_three, Shape.rowMajor_val_four]
  have h1 := (i 1).isLt
  have h2 := (i 2).isLt
  change (i 1).val < 1 at h1
  change (i 2).val < 1 at h2
  show ((i 0).val * 1 + 0) * 4 + (i 3).val = (((i 0).val * 1 + (i 1).val) * 1 + (i 2).val) * 4 + (i 3).val
  omega

/-- What the trailing reshape leaves. -/
theorem tail_result (c : Dev nD) :
    Pipeline.afterTail₀ cfgs (dats m) 0 (V0 m) [hostOps1] c main_v1 = result (m ((c : Thread nD τ).loc main_arg0)) := by
  rw [← reshape_rows, ← final_rows m c]
  have h := Pipeline.withArrays_arr spec0 winFacts0.arr_inj c (V0 m c) (fun w => (dats m 0 c).arrAt w cfg0.N) 1
  unfold Pipeline.afterTail₀
  show StableHlo.after [StableHlo.reshape main_v0 main_v1 rfl _] _ _ = _
  rw [StableHlo.after_cons, StableHlo.after_nil, StableHlo.reshape_result]
  exact congrArg (fun b => shapeCast S8x1x1x4 b _) h

/-- The run: the result is the four contrasts of each image, and the argument array is unchanged. -/
theorem kernel_run : θ_run defs (onTc (τ := τ) (main (F := Ideal))) ⟨m, fun _ => 0, ρ⟩ fun r => ∀ c : Dev nD,
      r.2.mem ((c.tc : Thread nD τ).loc main_v1) = result (m ((c.tc : Thread nD τ).loc main_arg0))
      ∧ r.2.mem ((c.tc : Thread nD τ).loc main_arg0) = m ((c.tc : Thread nD τ).loc main_arg0) :=
  (θ_run defs _ _).mono (fun r h c =>
    ⟨((h.1 c).2 main_v1 (Pipeline.mem_restRefs_of main_v1 rfl (by decide))).trans (tail_result m c), h.2 c⟩)
    (θ_run_and (run_main m ρ) (unchanged m ρ))

end Cert.Glcm

end
-- ==== Proof.Glcm.RefArray.lean ====
/-
  What the reference's result array holds: the four contrasts of each image of its argument array.
-/
module

public import proofs.«01_k».proof.Proof.Gen.ReferenceIdeal.Read
public import proofs.«01_k».proof.Proof.Glcm.RefImages
public import proofs.«01_k».proof.Proof.Glcm.Equation
public import proofs.«01_k».proof.Proof.Glcm.Array

@[expose] public section

noncomputable section

namespace Cert.Glcm

open Idealize.ShloMosaic Cert.ReferenceIdeal Cert.ReferenceIdeal.Gen Cert.ReferenceIdeal.Read

/-- The quantised images are the reference's. -/
theorem quant_stage (a : FVec Ideal S8x1x1024x1024 .f32) : val_main_v13 (F := Ideal) a = refQuant a := rfl

/-- Each offset's one-hot levels are the reference's. -/
theorem hot_stage₁ (a : FVec Ideal S8x1x1024x1024 .f32) : val_main_v23 (F := Ideal) a = refHot (refQuant a) := rfl
theorem hot_stage₂ (a : FVec Ideal S8x1x1024x1024 .f32) : val_main_v115 (F := Ideal) a = refHot (refQuant a) := rfl
theorem hot_stage₃ (a : FVec Ideal S8x1x1024x1024 .f32) : val_main_v210 (F := Ideal) a = refHot (refQuant a) := rfl
theorem hot_stage₄ (a : FVec Ideal S8x1x1024x1024 .f32) : val_main_v302 (F := Ideal) a = refHot (refQuant a) := rfl

/-- Each offset's neighbours. -/
theorem near_stage₁ (a : FVec Ideal S8x1x1024x1024 .f32) :
    val_main_v26 (F := Ideal) a = refRight (refHot (refQuant a)) := rfl
theorem near_stage₂ (a : FVec Ideal S8x1x1024x1024 .f32) :
    val_main_v121 (F := Ideal) a = refRight (refUp (refHot (refQuant a))) := rfl
theorem near_stage₃ (a : FVec Ideal S8x1x1024x1024 .f32) :
    val_main_v213 (F := Ideal) a = refUp (refHot (refQuant a)) := rfl
theorem near_stage₄ (a : FVec Ideal S8x1x1024x1024 .f32) :
    val_main_v308 (F := Ideal) a = refLeft (refUp (refHot (refQuant a))) := rfl

/-- Each offset's inside flags. -/
theorem inside_stage₁ : val_main_v48 (F := Ideal) = refInside (refLine 0#32) (refLine 5#32) := rfl
theorem inside_stage₂ : val_main_v143 (F := Ideal) = refInside (refLine 4294967291#32) (refLine 5#32) := rfl
theorem inside_stage₃ : val_main_v235 (F := Ideal) = refInside (refLine 4294967291#32) (refLine 0#32) := rfl
theorem inside_stage₄ : val_main_v330 (F := Ideal) = refInside (refLine 4294967291#32) (refLine 4294967291#32) := rfl

/-- Each offset's contrast is the score of its three arrays. -/
theorem score_stage₁ (a : FVec Ideal S8x1x1024x1024 .f32) : val_main_v105 (F := Ideal) a
    = refScore (val_main_v23 (F := Ideal) a) (val_main_v26 (F := Ideal) a) (val_main_v48 (F := Ideal)) := rfl
theorem score_stage₂ (a : FVec Ideal S8x1x1024x1024 .f32) : val_main_v200 (F := Ideal) a
    = refScore (val_main_v115 (F := Ideal) a) (val_main_v121 (F := Ideal) a) (val_main_v143 (F := Ideal)) := rfl
theorem score_stage₃ (a : FVec Ideal S8x1x1024x1024 .f32) : val_main_v292 (F := Ideal) a
    = refScore (val_main_v210 (F := Ideal) a) (val_main_v213 (F := Ideal) a) (val_main_v235 (F := Ideal)) := rfl
theorem score_stage₄ (a : FVec Ideal S8x1x1024x1024 .f32) : val_main_v387 (F := Ideal) a
    = refScore (val_main_v302 (F := Ideal) a) (val_main_v308 (F := Ideal) a) (val_main_v330 (F := Ideal)) := rfl

/-- The four scores, image by image. -/
def refStack (s₁ s₂ s₃ s₄ : FVec Ideal S8 .f32) : FVec Ideal S8x1x1x4 .f32 :=
  shapeCast _ (transpose S8x4 [1, 0]
    (concatenate S4x8 0 [⟨S1x8, broadcastInDim S1x8 ![1] bcast_S8_S1x8_1 s₁⟩, ⟨S1x8, broadcastInDim S1x8 ![1] bcast_S8_S1x8_1 s₂⟩,
      ⟨S1x8, broadcastInDim S1x8 ![1] bcast_S8_S1x8_1 s₃⟩, ⟨S1x8, broadcastInDim S1x8 ![1] bcast_S8_S1x8_1 s₄⟩]
      concatenates_S1x8_S1x8_S1x8_S1x8_S4x8_d0) transposes_S4x8_S8x4_1_0) shapeCasts_S8x4_S8x1x1x4

theorem stack_stage (a : FVec Ideal S8x1x1024x1024 .f32) : val_main_v394 (F := Ideal) a
    = refStack (val_main_v105 (F := Ideal) a) (val_main_v200 (F := Ideal) a) (val_main_v292 (F := Ideal) a)
      (val_main_v387 (F := Ideal) a) := rfl

theorem refStack_apply (s₁ s₂ s₃ s₄ : FVec Ideal S8 .f32) (n : Fin 8) (o : Fin 4) :
    refStack s₁ s₂ s₃ s₄ (ix4 n 0 0 o) = ![s₁ (ix1 n), s₂ (ix1 n), s₃ (ix1 n), s₄ (ix1 n)] o := by
  fin_cases o <;> pointwise [refStack]

/-- The quantised images, image by image. -/
theorem refQuant_apply (a : FVec Ideal S8x1x1024x1024 .f32) (n : Fin 8) (p : Place) :
    refQuant a (ix3 n p.1 p.2) = quant (imageOf a n) p := by
  rw [refQuant, refQuantAt_apply, refLo_apply, refHi_apply, refBatch_apply]
  simp only [refBatch_apply]
  rfl

/-- Their one-hot levels. -/
theorem refHot_quant (a : FVec Ideal S8x1x1024x1024 .f32) (n : Fin 8) (p : Place) (l : Fin 16) :
    refHot (refQuant a) (ix4 n p.1 p.2 l) = (hot (quant (imageOf a n)) l p : EReal) := by
  rw [refHot_apply, refQuant_apply a n p]; rfl

/-- The four inside flags. -/
theorem inside_right (p : Place) : refInside (refLine 0#32) (refLine 5#32) (ix2 p.1 p.2) = (inRight p : EReal) := by
  rw [refInside_apply _ _ _ _ _ _ ((refLine_apply _ _).trans (line_zero _)) ((refLine_apply _ _).trans (line_plus _)), inRight]
  simp only [Bool.true_and, decide_eq_true_eq]
  split <;> simp

theorem inside_topRight (p : Place) :
    refInside (refLine 4294967291#32) (refLine 5#32) (ix2 p.1 p.2) = (inTopRight p : EReal) := by
  rw [refInside_apply _ _ _ _ _ _ ((refLine_apply _ _).trans (line_minus _)) ((refLine_apply _ _).trans (line_plus _)), inTopRight]
  simp only [Bool.and_eq_true, decide_eq_true_eq]
  split <;> simp

theorem inside_top (p : Place) : refInside (refLine 4294967291#32) (refLine 0#32) (ix2 p.1 p.2) = (inTop p : EReal) := by
  rw [refInside_apply _ _ _ _ _ _ ((refLine_apply _ _).trans (line_minus _)) ((refLine_apply _ _).trans (line_zero _)), inTop]
  simp only [Bool.and_true, decide_eq_true_eq]
  split <;> simp

theorem inside_topLeft (p : Place) :
    refInside (refLine 4294967291#32) (refLine 4294967291#32) (ix2 p.1 p.2) = (inTopLeft p : EReal) := by
  rw [refInside_apply _ _ _ _ _ _ ((refLine_apply _ _).trans (line_minus _)) ((refLine_apply _ _).trans (line_minus _)), inTopLeft]
  simp only [Bool.and_eq_true, decide_eq_true_eq]
  split <;> simp

/-- One offset's score is the contrast, whatever the neighbour, where some neighbours are outside. -/
theorem score_eq (a : FVec Ideal S8x1x1024x1024 .f32) (D : FVec Ideal S8x1024x1024x16 .f32) (v : FVec Ideal S1024x1024 .f32)
    (n : Fin 8) (nb : Place → Place) (w : Place → ℝ)
    (hD : ∀ p l, D (ix4 n p.1 p.2 l) = (hot (quant (imageOf a n)) l (nb p) : EReal))
    (hv : ∀ p, v (ix2 p.1 p.2) = (w p : EReal)) (h0 : ∀ p, 0 ≤ w p) (h1 : ∀ p, w p ≤ 1) (ht : 0 < padTotal w) :
    refScore (refHot (refQuant a)) D v (ix1 n) = contrast (quant (imageOf a n)) nb w :=
  refScore_eq (fun p l => refHot_quant a n p l) hD hv
    (denom_pos _ _ _ (fun _ _ => ind_nonneg _ _) (fun _ _ => ind_nonneg _ _) h0 h1 (fun p => sum_ind_le _) ht)

/-- A flag is between zero and one. -/
theorem flag_between (c : Prop) [Decidable c] : 0 ≤ (if c then 1 else 0 : ℝ) ∧ (if c then 1 else 0 : ℝ) ≤ 1 := by
  split <;> norm_num

/-- The reference's result: the four contrasts of each image. -/
theorem reference_result (a : FVec Ideal S8x1x1024x1024 .f32) : val_main_v394 (F := Ideal) a = result a := by
  have e₁ : ∀ n, val_main_v105 (F := Ideal) a (ix1 n) = contrast (quant (imageOf a n)) (fun p => (p.1, ahead p.2)) inRight :=
    fun n => by
      rw [score_stage₁, hot_stage₁, near_stage₁, inside_stage₁]
      refine score_eq a _ _ n (fun p => (p.1, ahead p.2)) inRight (fun p l => ?_) inside_right
        (fun p => (flag_between _).1) (fun p => (flag_between _).2) (by rw [padTotal_right]; norm_num)
      rw [refRight_apply]; exact refHot_quant a n (p.1, ahead p.2) l
  have e₂ : ∀ n, val_main_v200 (F := Ideal) a (ix1 n)
      = contrast (quant (imageOf a n)) (fun p => (back p.1, ahead p.2)) inTopRight :=
    fun n => by
      rw [score_stage₂, hot_stage₂, near_stage₂, inside_stage₂]
      refine score_eq a _ _ n (fun p => (back p.1, ahead p.2)) inTopRight (fun p l => ?_) inside_topRight
        (fun p => (flag_between _).1) (fun p => (flag_between _).2) (by rw [padTotal_topRight]; norm_num)
      rw [refRight_apply, refUp_apply]; exact refHot_quant a n (back p.1, ahead p.2) l
  have e₃ : ∀ n, val_main_v292 (F := Ideal) a (ix1 n) = contrast (quant (imageOf a n)) (fun p => (back p.1, p.2)) inTop :=
    fun n => by
      rw [score_stage₃, hot_stage₃, near_stage₃, inside_stage₃]
      refine score_eq a _ _ n (fun p => (back p.1, p.2)) inTop (fun p l => ?_) inside_top
        (fun p => (flag_between _).1) (fun p => (flag_between _).2) (by rw [padTotal_top]; norm_num)
      rw [refUp_apply]; exact refHot_quant a n (back p.1, p.2) l
  have e₄ : ∀ n, val_main_v387 (F := Ideal) a (ix1 n)
      = contrast (quant (imageOf a n)) (fun p => (back p.1, back p.2)) inTopLeft :=
    fun n => by
      rw [score_stage₄, hot_stage₄, near_stage₄, inside_stage₄]
      refine score_eq a _ _ n (fun p => (back p.1, back p.2)) inTopLeft (fun p l => ?_) inside_topLeft
        (fun p => (flag_between _).1) (fun p => (flag_between _).2) (by rw [padTotal_topLeft]; norm_num)
      rw [refLeft_apply, refUp_apply]; exact refHot_quant a n (back p.1, back p.2) l
  funext i
  obtain ⟨n, o, rfl⟩ : ∃ (n : Fin 8) (o : Fin 4), i = ix4 n 0 0 o := ⟨i 0, i 3, by
    funext b
    match b with
    | ⟨0, _⟩ => rfl
    | ⟨1, _⟩ => exact Fin.ext (by have := (i 1).isLt; change (i 1).val < 1 at this; show (i 1).val = 0; omega)
    | ⟨2, _⟩ => exact Fin.ext (by have := (i 2).isLt; change (i 2).val < 1 at this; show (i 2).val = 0; omega)
    | ⟨3, _⟩ => rfl⟩
  rw [stack_stage, refStack_apply, e₁, e₂, e₃, e₄]
  rfl

end Cert.Glcm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Glcm.RefArray
public import Idealize.ShloMosaic.Adequacy
public import Idealize.ShloMosaic.Init

@[expose] public section

noncomputable section

namespace Cert.Proof

open Idealize.ShloMosaic Idealize.SL.Sem

/-- The reference terminates without fault, leaves its argument as it was and every semaphore counter at zero: its
    generated run read at the argument, and it declares no semaphore. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The ideal kernel and the reference, started from the same stack of images, end with the same scores: both leave
    `Cert.Glcm.result` of the stack, and neither changes its argument. -/
theorem same_scores : Cert.algebraic_KernelIdeal_ReferenceIdeal := fun m g m' g' _ h =>
  ⟨fun c => Cert.Glcm.result (m ((c.tc : Thread Cert.KernelIdeal.nD Cert.KernelIdeal.τ).loc Cert.KernelIdeal.main_arg0)),
    Cert.Glcm.kernel_run m g,
    (θ_run Cert.ReferenceIdeal.defs _ _).mono
      (fun _ hr c => ⟨(hr c).1.trans ((Cert.ReferenceIdeal.Read.val_main_v394_eq _).trans
        ((Cert.Glcm.reference_result _).trans (congrArg Cert.Glcm.result (h c)))), (hr c).2⟩)
      (Cert.ReferenceIdeal.Value.run (F := Ideal) m' g')⟩

/-- The five claims together. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    same_scores⟩

end Cert.Proof

end
